-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x8192 : Shape := ⟨3, ![3, 4096, 8192]⟩
abbrev S8192x8192 : Shape := ⟨2, ![8192, 8192]⟩
abbrev S1024x22016 : Shape := ⟨2, ![1024, 22016]⟩
abbrev S22016 : Shape := ⟨1, ![22016]⟩
abbrev S7168x11008 : Shape := ⟨2, ![7168, 11008]⟩
abbrev S12288x8192 : Shape := ⟨2, ![12288, 8192]⟩
abbrev S12288x1024 : Shape := ⟨2, ![12288, 1024]⟩
abbrev S12288x128 : Shape := ⟨2, ![12288, 128]⟩
abbrev S12288x7168 : Shape := ⟨2, ![12288, 7168]⟩
abbrev S512x8192 : Shape := ⟨2, ![512, 8192]⟩
abbrev S8192x512 : Shape := ⟨2, ![8192, 512]⟩
abbrev S512x512 : Shape := ⟨2, ![512, 512]⟩
abbrev S512x128 : Shape := ⟨2, ![512, 128]⟩
abbrev S16x512x512 : Shape := ⟨3, ![16, 512, 512]⟩
abbrev S512 : Shape := ⟨1, ![512]⟩
abbrev S512x1 : Shape := ⟨2, ![512, 1]⟩
abbrev S1x512x512 : Shape := ⟨3, ![1, 512, 512]⟩
abbrev S1x22016 : Shape := ⟨2, ![1, 22016]⟩
abbrev S12288x22016 : Shape := ⟨2, ![12288, 22016]⟩
abbrev S768x1024 : Shape := ⟨2, ![768, 1024]⟩
abbrev S768x128 : Shape := ⟨2, ![768, 128]⟩
abbrev S768x7168 : Shape := ⟨2, ![768, 7168]⟩
abbrev S64x512 : Shape := ⟨2, ![64, 512]⟩
abbrev S1x512 : Shape := ⟨2, ![1, 512]⟩
abbrev S448x256 : Shape := ⟨2, ![448, 256]⟩
abbrev S768x512 : Shape := ⟨2, ![768, 512]⟩
abbrev S2x1024x512 : Shape := ⟨3, ![2, 1024, 512]⟩
abbrev S2x7168x512 : Shape := ⟨3, ![2, 7168, 512]⟩
abbrev S1x64x512 : Shape := ⟨3, ![1, 64, 512]⟩
abbrev S112x256 : Shape := ⟨2, ![112, 256]⟩
abbrev S112x128 : Shape := ⟨2, ![112, 128]⟩
abbrev S112x128x1 : Shape := ⟨3, ![112, 128, 1]⟩
abbrev S448x128 : Shape := ⟨2, ![448, 128]⟩
abbrev S448x512 : Shape := ⟨2, ![448, 512]⟩
abbrev S1x448x512 : Shape := ⟨3, ![1, 448, 512]⟩
abbrev S1x1024x512 : Shape := ⟨3, ![1, 1024, 512]⟩
abbrev S1024x512 : Shape := ⟨2, ![1024, 512]⟩
abbrev S1x7168x512 : Shape := ⟨3, ![1, 7168, 512]⟩
abbrev S7168x512 : Shape := ⟨2, ![7168, 512]⟩
abbrev S1x128 : Shape := ⟨2, ![1, 128]⟩
abbrev S3x4096x22016 : Shape := ⟨3, ![3, 4096, 22016]⟩
abbrev S3x4096x1024 : Shape := ⟨3, ![3, 4096, 1024]⟩
abbrev S12288x1 : Shape := ⟨2, ![12288, 1]⟩
abbrev S12288 : Shape := ⟨1, ![12288]⟩
abbrev S3x4096 : Shape := ⟨2, ![3, 4096]⟩
abbrev S3x4096x7168 : Shape := ⟨3, ![3, 4096, 7168]⟩

abbrev nBuf : Space → Nat
  | .hbm => 23
  | .vmem => 35
  | .smem => 0
  | _ => 0

abbrev bufTy : (tb : Table) → Fin (tcTables nBuf tb) → BufTy
  | .hbm, ⟨0, _⟩ => ⟨S3x4096x8192, .bf16⟩
  | .hbm, ⟨1, _⟩ => ⟨S8192x8192, .bf16⟩
  | .hbm, ⟨2, _⟩ => ⟨S1024x22016, .i8⟩
  | .hbm, ⟨3, _⟩ => ⟨S22016, .f32⟩
  | .hbm, ⟨4, _⟩ => ⟨S7168x11008, .i8⟩
  | .hbm, ⟨5, _⟩ => ⟨S22016, .f32⟩
  | .hbm, ⟨6, _⟩ => ⟨S12288x8192, .bf16⟩
  | .hbm, ⟨7, _⟩ => ⟨S12288x1024, .i8⟩
  | .hbm, ⟨8, _⟩ => ⟨S12288x128, .f32⟩
  | .hbm, ⟨9, _⟩ => ⟨S12288x7168, .i8⟩
  | .hbm, ⟨10, _⟩ => ⟨S12288x128, .f32⟩
  | .hbm, ⟨11, _⟩ => ⟨S1x22016, .f32⟩
  | .hbm, ⟨12, _⟩ => ⟨S1x22016, .f32⟩
  | .hbm, ⟨13, _⟩ => ⟨S12288x22016, .bf16⟩
  | .hbm, ⟨14, _⟩ => ⟨S3x4096x22016, .bf16⟩
  | .hbm, ⟨15, _⟩ => ⟨S3x4096x1024, .i8⟩
  | .hbm, ⟨16, _⟩ => ⟨S12288x1, .f32⟩
  | .hbm, ⟨17, _⟩ => ⟨S12288, .f32⟩
  | .hbm, ⟨18, _⟩ => ⟨S3x4096, .f32⟩
  | .hbm, ⟨19, _⟩ => ⟨S3x4096x7168, .i8⟩
  | .hbm, ⟨20, _⟩ => ⟨S12288x1, .f32⟩
  | .hbm, ⟨21, _⟩ => ⟨S12288, .f32⟩
  | .hbm, ⟨22, _⟩ => ⟨S3x4096, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .i8⟩
  | .local _ .vmem, ⟨5, _⟩ => ⟨S512x512, .i8⟩
  | .local _ .vmem, ⟨6, _⟩ => ⟨S512x128, .f32⟩
  | .local _ .vmem, ⟨7, _⟩ => ⟨S512x128, .f32⟩
  | .local _ .vmem, ⟨8, _⟩ => ⟨S512x512, .i8⟩
  | .local _ .vmem, ⟨9, _⟩ => ⟨S512x512, .i8⟩
  | .local _ .vmem, ⟨10, _⟩ => ⟨S512x128, .f32⟩
  | .local _ .vmem, ⟨11, _⟩ => ⟨S512x128, .f32⟩
  | .local _ .vmem, ⟨12, _⟩ => ⟨S16x512x512, .f32⟩
  | .local _ .vmem, ⟨13, _⟩ => ⟨S512x128, .f32⟩
  | .local _ .vmem, ⟨14, _⟩ => ⟨S512x128, .f32⟩
  | .local _ .vmem, ⟨15, _⟩ => ⟨S768x1024, .i8⟩
  | .local _ .vmem, ⟨16, _⟩ => ⟨S768x1024, .i8⟩
  | .local _ .vmem, ⟨17, _⟩ => ⟨S768x128, .f32⟩
  | .local _ .vmem, ⟨18, _⟩ => ⟨S768x128, .f32⟩
  | .local _ .vmem, ⟨19, _⟩ => ⟨S768x7168, .i8⟩
  | .local _ .vmem, ⟨20, _⟩ => ⟨S768x7168, .i8⟩
  | .local _ .vmem, ⟨21, _⟩ => ⟨S768x128, .f32⟩
  | .local _ .vmem, ⟨22, _⟩ => ⟨S768x128, .f32⟩
  | .local _ .vmem, ⟨23, _⟩ => ⟨S64x512, .i8⟩
  | .local _ .vmem, ⟨24, _⟩ => ⟨S64x512, .i8⟩
  | .local _ .vmem, ⟨25, _⟩ => ⟨S1x512, .f32⟩
  | .local _ .vmem, ⟨26, _⟩ => ⟨S1x512, .f32⟩
  | .local _ .vmem, ⟨27, _⟩ => ⟨S448x256, .i8⟩
  | .local _ .vmem, ⟨28, _⟩ => ⟨S448x256, .i8⟩
  | .local _ .vmem, ⟨29, _⟩ => ⟨S1x512, .f32⟩
  | .local _ .vmem, ⟨30, _⟩ => ⟨S1x512, .f32⟩
  | .local _ .vmem, ⟨31, _⟩ => ⟨S768x512, .bf16⟩
  | .local _ .vmem, ⟨32, _⟩ => ⟨S768x512, .bf16⟩
  | .local _ .vmem, ⟨33, _⟩ => ⟨S2x1024x512, .bf16⟩
  | .local _ .vmem, ⟨34, _⟩ => ⟨S2x7168x512, .bf16⟩
  | _, _ => ⟨S3x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_scratch0 : Ref sig .tc := ⟨.vmem, 33, rfl⟩
abbrev cc1_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨2, ![25, 16], ![false, false]⟩

def k0_cond1 (i : grid0.Coords) : BitVec 1 :=
  let arg0 : BitVec 32 := BitVec.ofNat 32 (i 0).val
  let c0_i32 : BitVec 32 := 0#32
  let v0 : BitVec 1 := Scalar.cmpi .sgt arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v9 : Index := Scalar.indexCast arg1
  let c0 : Index := 0#32
  let c0_4 : Index := 0#32
  ![v9.toNat, 0, 0]
def k0_cond5 (i : grid0.Coords) : BitVec 1 :=
  let arg0 : BitVec 32 := BitVec.ofNat 32 (i 0).val
  let c24_i32 : BitVec 32 := 24#32
  let v3 : BitVec 1 := Scalar.cmpi .slt arg0 c24_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let v10 : Index := Scalar.indexCast arg1
  let c0_5 : Index := 0#32
  let c0_6 : Index := 0#32
  ![v10.toNat, 0, 0]
def k0_cond3 (i : grid0.Coords) : BitVec 1 :=
  let arg1 : BitVec 32 := BitVec.ofNat 32 (i 1).val
  let c2_i32 : BitVec 32 := 2#32
  let v12 : BitVec 1 := Scalar.cmpi .slt arg1 c2_i32
  let v13 : BitVec 32 := Scalar.extui v12
  let c0_i32_5 : BitVec 32 := 0#32
  let v14 : BitVec 1 := Scalar.cmpi .ne v13 c0_i32_5
  v14

def k0_cond2 (i : grid0.Coords) : BitVec 1 :=
  let arg1 : BitVec 32 := BitVec.ofNat 32 (i 1).val
  let c0_i32_2 : BitVec 32 := 0#32
  let v6 : BitVec 1 := Scalar.cmpi .eq arg1 c0_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c2_i32_6 : BitVec 32 := 2#32
  let v15 : BitVec 1 := Scalar.cmpi .sge arg1 c2_i32_6
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 1 := Scalar.cmpi .eq arg0 c24_i32
  let c15_i32 : BitVec 32 := 15#32
  let v1 : BitVec 32 := Scalar.select v0 c15_i32 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c1_i32_1 : BitVec 32 := 1#32
  let v3 : BitVec 32 := Scalar.minsi arg1 c1_i32_1
  let c0_i32_2 : BitVec 32 := 0#32
  let v4 : BitVec 32 := Scalar.select v2 c0_i32_2 v3
  let c0_i32_3 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c2_i32 : BitVec 32 := 2#32
  let v3 : BitVec 32 := Scalar.subi arg1 c2_i32
  let c0_i32_1 : BitVec 32 := 0#32
  let v4 : BitVec 32 := Scalar.maxsi v3 c0_i32_1
  let c0_i32_2 : BitVec 32 := 0#32
  let v5 : BitVec 32 := Scalar.select v2 c0_i32_2 v4
  let c0_i32_3 : BitVec 32 := 0#32
  ![v1.toNat, v5.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![44, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let v19 : Index := Scalar.indexCast v15
  let arg1 : BitVec 32 := BitVec.ofNat 32 (i 1).val
  let c64_i32 : BitVec 32 := 64#32
  let v18 : BitVec 32 := Scalar.muli arg1 c64_i32
  let v20 : Index := Scalar.indexCast v18
  let c0_8 : Index := 0#32
  ![v19.toNat, v20.toNat, 0]
def k1_off2 (i : grid1.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let v132 : Index := Scalar.indexCast v15
  let arg1 : BitVec 32 := BitVec.ofNat 32 (i 1).val
  let c448_i32 : BitVec 32 := 448#32
  let v131 : BitVec 32 := Scalar.muli arg1 c448_i32
  let v133 : Index := Scalar.indexCast v131
  let c0_44 : Index := 0#32
  ![v132.toNat, v133.toNat, 0]
def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k1_off3 (i : grid1.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v20 : Index := Scalar.indexCast v16
  let c0_9 : Index := 0#32
  let c0_10 : Index := 0#32
  ![v20.toNat, 0, 0]
def k1_off4 (i : grid1.Coords) : Fin 3 → Nat :=
  let arg0 : BitVec 32 := BitVec.ofNat 32 (i 0).val
  let c1_i32 : BitVec 32 := 1#32
  let v6 : BitVec 32 := Scalar.addi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v27 : Index := Scalar.indexCast v16
  let c0_13 : Index := 0#32
  let c0_14 : Index := 0#32
  ![v27.toNat, 0, 0]
def k1_off5 (i : grid1.Coords) : Fin 3 → Nat :=
  let arg0 : BitVec 32 := BitVec.ofNat 32 (i 0).val
  let c2_i32_53 : BitVec 32 := 2#32
  let c0_i32_54 : BitVec 32 := 0#32
  let v107 : BitVec 1 := Scalar.cmpi .eq c2_i32_53 c0_i32_54
  let c1_i32_55 : BitVec 32 := 1#32
  let v108 : BitVec 32 := Scalar.select v107 c1_i32_55 c2_i32_53
  let v109 : BitVec 32 := Scalar.remsi arg0 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let v120 : Index := Scalar.indexCast v116
  let arg1 : BitVec 32 := BitVec.ofNat 32 (i 1).val
  let c64_i32 : BitVec 32 := 64#32
  let v119 : BitVec 32 := Scalar.muli arg1 c64_i32
  let v121 : Index := Scalar.indexCast v119
  let c0_61 : Index := 0#32
  ![v120.toNat, v121.toNat, 0]
def k1_off6 (i : grid1.Coords) : Fin 3 → Nat :=
  let arg0 : BitVec 32 := BitVec.ofNat 32 (i 0).val
  let c2_i32_53 : BitVec 32 := 2#32
  let c0_i32_54 : BitVec 32 := 0#32
  let v107 : BitVec 1 := Scalar.cmpi .eq c2_i32_53 c0_i32_54
  let c1_i32_55 : BitVec 32 := 1#32
  let v108 : BitVec 32 := Scalar.select v107 c1_i32_55 c2_i32_53
  let v109 : BitVec 32 := Scalar.remsi arg0 v108
  let c0_i32_57 : BitVec 32 := 0#32
  let v111 : BitVec 1 := Scalar.cmpi .slt v109 c0_i32_57
  let c0_i32_58 : BitVec 32 := 0#32
  let v112 : BitVec 1 := Scalar.cmpi .slt v108 c0_i32_58
  let v113 : BitVec 1 := Scalar.xori v111 v112
  let c0_i32_56 : BitVec 32 := 0#32
  let v110 : BitVec 1 := Scalar.cmpi .ne v109 c0_i32_56
  let v114 : BitVec 1 := Scalar.andi v113 v110
  let v115 : BitVec 32 := Scalar.addi v109 v108
  let v116 : BitVec 32 := Scalar.select v114 v115 v109
  let v233 : Index := Scalar.indexCast v116
  let arg1 : BitVec 32 := BitVec.ofNat 32 (i 1).val
  let c448_i32 : BitVec 32 := 448#32
  let v232 : BitVec 32 := Scalar.muli arg1 c448_i32
  let v234 : Index := Scalar.indexCast v232
  let c0_97 : Index := 0#32
  ![v233.toNat, v234.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc1_transform_4 (i : grid1.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_6 (i : grid1.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  ![arg1.toNat, v0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage1_0 : Fin 2 → Memref sig .tc .vmem S768x1024 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S768x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S768x7168 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S768x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S64x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S448x256 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S768x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ReferenceIdeal.lean ====
abbrev S3x4096x8192 : Shape := ⟨3, ![3, 4096, 8192]⟩
abbrev S8192x8192 : Shape := ⟨2, ![8192, 8192]⟩
abbrev S1024x22016 : Shape := ⟨2, ![1024, 22016]⟩
abbrev S22016 : Shape := ⟨1, ![22016]⟩
abbrev S7168x11008 : Shape := ⟨2, ![7168, 11008]⟩
abbrev S_ : Shape := ⟨0, ![]⟩
abbrev S12288x8192 : Shape := ⟨2, ![12288, 8192]⟩
abbrev S12288x1024 : Shape := ⟨2, ![12288, 1024]⟩
abbrev S12288x1 : Shape := ⟨2, ![12288, 1]⟩
abbrev S12288x7168 : Shape := ⟨2, ![12288, 7168]⟩
abbrev S12288x22016 : Shape := ⟨2, ![12288, 22016]⟩
abbrev S12288x11008 : Shape := ⟨2, ![12288, 11008]⟩
abbrev S12288 : Shape := ⟨1, ![12288]⟩
abbrev S11008 : Shape := ⟨1, ![11008]⟩
abbrev S1x11008 : Shape := ⟨2, ![1, 11008]⟩
abbrev S12288x11008x1 : Shape := ⟨3, ![12288, 11008, 1]⟩
abbrev S12288x11008x2 : Shape := ⟨3, ![12288, 11008, 2]⟩
abbrev S1x22016 : Shape := ⟨2, ![1, 22016]⟩
abbrev S3x4096x22016 : Shape := ⟨3, ![3, 4096, 22016]⟩
abbrev S3x4096x1024 : Shape := ⟨3, ![3, 4096, 1024]⟩
abbrev S3x4096 : Shape := ⟨2, ![3, 4096]⟩
abbrev S3x4096x7168 : Shape := ⟨3, ![3, 4096, 7168]⟩

abbrev nBuf : Space → Nat
  | .hbm => 68
  | .vmem => 12
  | .smem => 0
  | _ => 0

abbrev bufTy : (tb : Table) → Fin (tcTables nBuf tb) → BufTy
  | .hbm, ⟨0, _⟩ => ⟨S3x4096x8192, .bf16⟩
  | .hbm, ⟨1, _⟩ => ⟨S8192x8192, .bf16⟩
  | .hbm, ⟨2, _⟩ => ⟨S1024x22016, .i8⟩
  | .hbm, ⟨3, _⟩ => ⟨S22016, .f32⟩
  | .hbm, ⟨4, _⟩ => ⟨S7168x11008, .i8⟩
  | .hbm, ⟨5, _⟩ => ⟨S22016, .f32⟩
  | .hbm, ⟨6, _⟩ => ⟨S7168x11008, .i32⟩
  | .hbm, ⟨7, _⟩ => ⟨S_, .i32⟩
  | .hbm, ⟨8, _⟩ => ⟨S7168x11008, .i32⟩
  | .hbm, ⟨9, _⟩ => ⟨S7168x11008, .i32⟩
  | .hbm, ⟨10, _⟩ => ⟨S_, .i32⟩
  | .hbm, ⟨11, _⟩ => ⟨S7168x11008, .i32⟩
  | .hbm, ⟨12, _⟩ => ⟨S7168x11008, .i1⟩
  | .hbm, ⟨13, _⟩ => ⟨S_, .i32⟩
  | .hbm, ⟨14, _⟩ => ⟨S7168x11008, .i32⟩
  | .hbm, ⟨15, _⟩ => ⟨S7168x11008, .i32⟩
  | .hbm, ⟨16, _⟩ => ⟨S7168x11008, .i32⟩
  | .hbm, ⟨17, _⟩ => ⟨S7168x11008, .i8⟩
  | .hbm, ⟨18, _⟩ => ⟨S_, .i32⟩
  | .hbm, ⟨19, _⟩ => ⟨S7168x11008, .i32⟩
  | .hbm, ⟨20, _⟩ => ⟨S7168x11008, .i32⟩
  | .hbm, ⟨21, _⟩ => ⟨S_, .i32⟩
  | .hbm, ⟨22, _⟩ => ⟨S7168x11008, .i32⟩
  | .hbm, ⟨23, _⟩ => ⟨S7168x11008, .i32⟩
  | .hbm, ⟨24, _⟩ => ⟨S_, .i32⟩
  | .hbm, ⟨25, _⟩ => ⟨S7168x11008, .i32⟩
  | .hbm, ⟨26, _⟩ => ⟨S7168x11008, .i1⟩
  | .hbm, ⟨27, _⟩ => ⟨S_, .i32⟩
  | .hbm, ⟨28, _⟩ => ⟨S7168x11008, .i32⟩
  | .hbm, ⟨29, _⟩ => ⟨S7168x11008, .i32⟩
  | .hbm, ⟨30, _⟩ => ⟨S7168x11008, .i32⟩
  | .hbm, ⟨31, _⟩ => ⟨S7168x11008, .i8⟩
  | .hbm, ⟨32, _⟩ => ⟨S12288x8192, .bf16⟩
  | .hbm, ⟨33, _⟩ => ⟨S12288x1024, .i8⟩
  | .hbm, ⟨34, _⟩ => ⟨S12288x1, .f32⟩
  | .hbm, ⟨35, _⟩ => ⟨S12288x7168, .i8⟩
  | .hbm, ⟨36, _⟩ => ⟨S12288x1, .f32⟩
  | .hbm, ⟨37, _⟩ => ⟨S12288x22016, .f32⟩
  | .hbm, ⟨38, _⟩ => ⟨S12288x11008, .f32⟩
  | .hbm, ⟨39, _⟩ => ⟨S12288x11008, .f32⟩
  | .hbm, ⟨40, _⟩ => ⟨S11008, .f32⟩
  | .hbm, ⟨41, _⟩ => ⟨S1x11008, .f32⟩
  | .hbm, ⟨42, _⟩ => ⟨S12288x11008, .f32⟩
  | .hbm, ⟨43, _⟩ => ⟨S12288x11008, .f32⟩
  | .hbm, ⟨44, _⟩ => ⟨S12288x11008, .f32⟩
  | .hbm, ⟨45, _⟩ => ⟨S12288x11008, .f32⟩
  | .hbm, ⟨46, _⟩ => ⟨S11008, .f32⟩
  | .hbm, ⟨47, _⟩ => ⟨S1x11008, .f32⟩
  | .hbm, ⟨48, _⟩ => ⟨S12288x11008, .f32⟩
  | .hbm, ⟨49, _⟩ => ⟨S12288x11008, .f32⟩
  | .hbm, ⟨50, _⟩ => ⟨S12288x11008, .f32⟩
  | .hbm, ⟨51, _⟩ => ⟨S12288x11008, .f32⟩
  | .hbm, ⟨52, _⟩ => ⟨S12288x11008x1, .f32⟩
  | .hbm, ⟨53, _⟩ => ⟨S12288x11008x1, .f32⟩
  | .hbm, ⟨54, _⟩ => ⟨S12288x11008x2, .f32⟩
  | .hbm, ⟨55, _⟩ => ⟨S12288x22016, .f32⟩
  | .hbm, ⟨56, _⟩ => ⟨S1x22016, .f32⟩
  | .hbm, ⟨57, _⟩ => ⟨S12288x22016, .f32⟩
  | .hbm, ⟨58, _⟩ => ⟨S12288x22016, .f32⟩
  | .hbm, ⟨59, _⟩ => ⟨S12288x22016, .f32⟩
  | .hbm, ⟨60, _⟩ => ⟨S12288x22016, .f32⟩
  | .hbm, ⟨61, _⟩ => ⟨S12288x22016, .f32⟩
  | .hbm, ⟨62, _⟩ => ⟨S12288x22016, .bf16⟩
  | .hbm, ⟨63, _⟩ => ⟨S3x4096x22016, .bf16⟩
  | .hbm, ⟨64, _⟩ => ⟨S3x4096x1024, .i8⟩
  | .hbm, ⟨65, _⟩ => ⟨S3x4096, .f32⟩
  | .hbm, ⟨66, _⟩ => ⟨S3x4096x7168, .i8⟩
  | .hbm, ⟨67, _⟩ => ⟨S3x4096, .f32⟩
  | .local _ .vmem, ⟨0, _⟩ => ⟨S12288x8192, .bf16⟩
  | .local _ .vmem, ⟨1, _⟩ => ⟨S8192x8192, .bf16⟩
  | .local _ .vmem, ⟨2, _⟩ => ⟨S1024x22016, .i8⟩
  | .local _ .vmem, ⟨3, _⟩ => ⟨S7168x11008, .i8⟩
  | .local _ .vmem, ⟨4, _⟩ => ⟨S7168x11008, .i8⟩
  | .local _ .vmem, ⟨5, _⟩ => ⟨S12288x1024, .i8⟩
  | .local _ .vmem, ⟨6, _⟩ => ⟨S12288x1, .f32⟩
  | .local _ .vmem, ⟨7, _⟩ => ⟨S12288x7168, .i8⟩
  | .local _ .vmem, ⟨8, _⟩ => ⟨S12288x1, .f32⟩
  | .local _ .vmem, ⟨9, _⟩ => ⟨S12288x22016, .f32⟩
  | .local _ .vmem, ⟨10, _⟩ => ⟨S12288x11008, .f32⟩
  | .local _ .vmem, ⟨11, _⟩ => ⟨S12288x11008, .f32⟩
  | _, _ => ⟨S3x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_c_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12288x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x22016 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x11008 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x11008 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x7168 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x22016 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12288x11008 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12288x11008 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.RotBody.lean ====
/-
  The body of `rotate_quantise` at one grid point, as a step on the contents of the buffers it touches.
-/
module

public import proofs.«01_k».proof.Proof.Gen.Kernel.Skeleton
public import proofs.«01_k».proof.Proof.Gen.Kernel.Launch
public import Idealize.ShloMosaic.Lib.Pipeline.FrameBody
public import Idealize.ShloMosaic.Lib.Pipeline.Value
public import Idealize.ShloMosaic.Lib.Tactic
public import Idealize.ShloMosaic.Lib.UnfoldOut
public import Idealize.ShloMosaic.Lib.WordCmp

@[expose] public section

set_option maxRecDepth 16384

noncomputable section

namespace Cert.Kernel.Rot

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Chunk `j` of the scratch that holds the rotated row tile. -/
def chunkRect (i : grid0.Coords) : Rect S16x512x512 :=
  Rect.unit (s := S16x512x512) (k0_off1 i) S1x512x512.size (by
    rw [k0_off1_eq]; intro a
    have h : (i 1).val < 16 := (i 1).isLt
    fin_cases a
    · show (i 1).val + 1 ≤ 16; omega
    · show 0 + 512 ≤ 512; omega
    · show 0 + 512 ≤ 512; omega)

/-- The int8 codes of one 512×512 chunk: four stores of 128 columns, last first. -/
def hiCodes (v : Vec F S512x512 .f32) (s : Vec F S512x128 .f32) : Vec F S512x512 .i8 :=
  View.canon [⟨Rect.unit ![0, 384] S512x128.size inb_S512x512_S512x128_0_384, k0_pay13 v s⟩,
    ⟨Rect.unit ![0, 256] S512x128.size inb_S512x512_S512x128_0_256, k0_pay12 v s⟩,
    ⟨Rect.unit ![0, 128] S512x128.size inb_S512x512_S512x128_0_128, k0_pay11 v s⟩,
    ⟨Rect.unit ![0, 0] S512x128.size inb_S512x512_S512x128_0_0, k0_pay10 v s⟩]

/-- The int4 codes of one chunk, stored the same way. -/
def loCodes (v : Vec F S512x512 .f32) (s : Vec F S512x128 .f32) : Vec F S512x512 .i8 :=
  View.canon [⟨Rect.unit ![0, 384] S512x128.size inb_S512x512_S512x128_0_384, k0_pay18 v s⟩,
    ⟨Rect.unit ![0, 256] S512x128.size inb_S512x512_S512x128_0_256, k0_pay17 v s⟩,
    ⟨Rect.unit ![0, 128] S512x128.size inb_S512x512_S512x128_0_128, k0_pay16 v s⟩,
    ⟨Rect.unit ![0, 0] S512x128.size inb_S512x512_S512x128_0_0, k0_pay15 v s⟩]

theorem hiCodes_eq {v v' : Vec F S512x512 .f32} {s s' : Vec F S512x128 .f32} (hv : v = v') (hs : s = s') :
    View.canon ([⟨Rect.unit (s := S512x512) ![0, 384] S512x128.size inb_S512x512_S512x128_0_384, k0_pay13 v s⟩,
    ⟨Rect.unit (s := S512x512) ![0, 256] S512x128.size inb_S512x512_S512x128_0_256, k0_pay12 v s⟩,
    ⟨Rect.unit (s := S512x512) ![0, 128] S512x128.size inb_S512x512_S512x128_0_128, k0_pay11 v s⟩,
    ⟨Rect.unit (s := S512x512) ![0, 0] S512x128.size inb_S512x512_S512x128_0_0, k0_pay10 v s⟩] : List (View.Piece (Elt F) S512x512 .i8))
      = hiCodes v' s' := by subst hv hs; rfl

theorem loCodes_eq {v v' : Vec F S512x512 .f32} {s s' : Vec F S512x128 .f32} (hv : v = v') (hs : s = s') :
    View.canon ([⟨Rect.unit (s := S512x512) ![0, 384] S512x128.size inb_S512x512_S512x128_0_384, k0_pay18 v s⟩,
    ⟨Rect.unit (s := S512x512) ![0, 256] S512x128.size inb_S512x512_S512x128_0_256, k0_pay17 v s⟩,
    ⟨Rect.unit (s := S512x512) ![0, 128] S512x128.size inb_S512x512_S512x128_0_128, k0_pay16 v s⟩,
    ⟨Rect.unit (s := S512x512) ![0, 0] S512x128.size inb_S512x512_S512x128_0_0, k0_pay15 v s⟩] : List (View.Piece (Elt F) S512x512 .i8))
      = loCodes v' s' := by subst hv hs; rfl

/-- Four stores of 128 columns fill a 512×512 block. -/
theorem cover4 (p0 p1 p2 p3 : Vec F S512x128 .i8) (y : S512x512.Idx) :
    ∃ p ∈ ([⟨Rect.unit (s := S512x512) ![0, 384] S512x128.size inb_S512x512_S512x128_0_384, p3⟩,
      ⟨Rect.unit (s := S512x512) ![0, 256] S512x128.size inb_S512x512_S512x128_0_256, p2⟩,
      ⟨Rect.unit (s := S512x512) ![0, 128] S512x128.size inb_S512x512_S512x128_0_128, p1⟩,
      ⟨Rect.unit (s := S512x512) ![0, 0] S512x128.size inb_S512x512_S512x128_0_0, p0⟩] : List (View.Piece (Elt F) S512x512 .i8)), y ∈ p.1.set :=
  View.cover_of_tiled [⟨Rect.unit (s := S512x512) ![0, 384] S512x128.size inb_S512x512_S512x128_0_384, p3⟩,
      ⟨Rect.unit (s := S512x512) ![0, 256] S512x128.size inb_S512x512_S512x128_0_256, p2⟩,
      ⟨Rect.unit (s := S512x512) ![0, 128] S512x128.size inb_S512x512_S512x128_0_128, p1⟩,
      ⟨Rect.unit (s := S512x512) ![0, 0] S512x128.size inb_S512x512_S512x128_0_0, p0⟩] S512x128.size (by rfl) y

/-- The scale of the int8 columns after the point: new on the first point of a row tile, else as found. -/
def newSh (i : grid0.Coords) (sh amH : Vec F S512x128 .f32) : Vec F S512x128 .f32 :=
  if k0_cond1 i = 1#1 ∧ k0_cond2 i = 1#1 then k0_pay1 amH else sh
/-- The scale of the int4 columns after the point. -/
def newSl (i : grid0.Coords) (sl amL : Vec F S512x128 .f32) : Vec F S512x128 .f32 :=
  if k0_cond1 i = 1#1 ∧ k0_cond2 i = 1#1 then k0_pay2 amL else sl
/-- The int8 code block after the point. -/
def newQh (i : grid0.Coords) (qh : Vec F S512x512 .i8) (xr : Vec F S16x512x512 .f32) (sh amH : Vec F S512x128 .f32) : Vec F S512x512 .i8 :=
  if k0_cond1 i = 1#1 ∧ k0_cond3 i = 1#1 then hiCodes (k0_pay3 (View.ld xr (chunkRect i))) (newSh i sh amH) else qh
/-- The int4 code block after the point. -/
def newQl (i : grid0.Coords) (ql : Vec F S512x512 .i8) (xr : Vec F S16x512x512 .f32) (sl amL : Vec F S512x128 .f32) : Vec F S512x512 .i8 :=
  if k0_cond1 i = 1#1 ∧ ¬ k0_cond3 i = 1#1 then loCodes (k0_pay3 (View.ld xr (chunkRect i))) (newSl i sl amL) else ql
/-- The rotated row tile after the point: chunk `j` replaced by this point's product. -/
def newXr (i : grid0.Coords) (x : Vec F S512x8192 .bf16) (u : Vec F S8192x512 .bf16) (xr : Vec F S16x512x512 .f32) : Vec F S16x512x512 .f32 :=
  if k0_cond5 i = 1#1 then (chunkRect i).overlay xr (k0_pay5 x u) else xr
/-- The running maximum over the int8 columns after the point. -/
def newAmH (i : grid0.Coords) (x : Vec F S512x8192 .bf16) (u : Vec F S8192x512 .bf16) (am : Vec F S512x128 .f32) : Vec F S512x128 .f32 :=
  if k0_cond5 i = 1#1 ∧ k0_cond3 i = 1#1 then k0_pay7 i x u am else am
/-- The running maximum over the int4 columns after the point. -/
def newAmL (i : grid0.Coords) (x : Vec F S512x8192 .bf16) (u : Vec F S8192x512 .bf16) (am : Vec F S512x128 .f32) : Vec F S512x128 .f32 :=
  if k0_cond5 i = 1#1 ∧ ¬ k0_cond3 i = 1#1 then k0_pay8 i x u am else am

/-- A chunk holds int4 columns exactly when it holds no int8 ones. -/
theorem cond4_iff (i : grid0.Coords) : k0_cond4 i = 1#1 ↔ ¬ k0_cond3 i = 1#1 := by
  have H : ∀ j : Fin 16, (Scalar.cmpi .ne (Scalar.extui (Scalar.cmpi .sge (BitVec.ofNat 32 j.val) 2#32)) 0#32 = 1#1)
      ↔ ¬ (Scalar.cmpi .ne (Scalar.extui (Scalar.cmpi .slt (BitVec.ofNat 32 j.val) 2#32)) 0#32 = 1#1) := by decide +kernel
  exact H (i 1)
theorem cond7_iff (i : grid0.Coords) :
    Scalar.cmpi .ne (Scalar.extui (Scalar.xori (Scalar.cmpi .slt (BitVec.ofNat 32 (i 1).val) 2#32) 1#1)) 0#32 = 1#1
      ↔ ¬ k0_cond3 i = 1#1 := by
  have H : ∀ j : Fin 16, (Scalar.cmpi .ne (Scalar.extui (Scalar.xori (Scalar.cmpi .slt (BitVec.ofNat 32 j.val) 2#32) 1#1)) 0#32 = 1#1)
      ↔ ¬ (Scalar.cmpi .ne (Scalar.extui (Scalar.cmpi .slt (BitVec.ofNat 32 j.val) 2#32)) 0#32 = 1#1) := by decide +kernel
  exact H (i 1)

/-- What a store of one rectangle leaves, read back. -/
theorem read_one {sp : Space} {s : Shape} {e : EltTy} (M : Memref sig .tc sp s e) (f : M.view.ty.Contents (Elt F)) (r : Rect s)
    (w : r.shape.Idx → Elt F e) : M.view.read (Elt F) (M.view.writes (Elt F) f [⟨r, w⟩]) = r.overlay (M.view.read (Elt F) f) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]; rfl

/-- A load of the whole shape. -/
theorem readAt_full {sp : Space} {s : Shape} {e : EltTy} (M : Memref sig .tc sp s e) (f : M.view.ty.Contents (Elt F)) {off : Fin s.rank → Nat}
    (h : off = fun _ => 0) (inb : ∀ a, off a + s.size a ≤ s.size a) :
    M.view.readAt (Elt F) (Rect.unit off s.size inb).toLoadRect f = M.view.read (Elt F) f :=
  View.ld_unit_zero h inb (M.view.read (Elt F) f)

/-- A store of the whole shape, read back. -/
theorem read_full {sp : Space} {s : Shape} {e : EltTy} (M : Memref sig .tc sp s e) (f : M.view.ty.Contents (Elt F)) {off : Fin s.rank → Nat}
    (h : off = fun _ => 0) (inb : ∀ a, off a + s.size a ≤ s.size a) (w : s.Idx → Elt F e) :
    M.view.read (Elt F) (M.view.writes (Elt F) f [⟨Rect.unit off s.size inb, w⟩]) = w := by
  subst h; rw [read_one]; funext y
  have e := Rect.overlay_emb (Rect.whole s) (M.view.read (Elt F) f) w y
  rw [Rect.emb_whole_apply] at e
  exact e

theorem off0 : (![0, 0] : Fin 2 → Nat) = fun _ => 0 := by funext a; fin_cases a <;> rfl

set_option maxHeartbeats 1600000 in
/-- The point's step on the nine buffers it touches, in any of its control cases. -/
theorem sound_rotate (c : Dev nD) (E : Set ℕ) (i : grid0.Coords)
    (M0 : Memref sig .tc .vmem S512x8192 .bf16) (w0 : M0.IsWhole) (M1 : Memref sig .tc .vmem S8192x512 .bf16) (w1 : M1.IsWhole)
    (M2 : Memref sig .tc .vmem S512x512 .i8) (w2 : M2.IsWhole) (M3 : Memref sig .tc .vmem S512x128 .f32) (w3 : M3.IsWhole)
    (M4 : Memref sig .tc .vmem S512x512 .i8) (w4 : M4.IsWhole) (M5 : Memref sig .tc .vmem S512x128 .f32) (w5 : M5.IsWhole)
    (M6 : Memref sig .tc .vmem S16x512x512 .f32) (w6 : M6.IsWhole) (M7 : Memref sig .tc .vmem S512x128 .f32) (w7 : M7.IsWhole)
    (M8 : Memref sig .tc .vmem S512x128 .f32) (w8 : M8.IsWhole)
    (X0 : Vec F S512x8192 .bf16) (X1 : Vec F S8192x512 .bf16) (X2 : Vec F S512x512 .i8) (X3 : Vec F S512x128 .f32)
    (X4 : Vec F S512x512 .i8) (X5 : Vec F S512x128 .f32) (X6 : Vec F S16x512x512 .f32) (X7 X8 : Vec F S512x128 .f32)
    (K : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ (iprop(owns (c : Thread nD τ) M0 fullShare X0 ∗ owns (c : Thread nD τ) M1 fullShare X1
            ∗ owns (c : Thread nD τ) M2 fullShare (newQh i X2 X6 X3 X7)
            ∗ owns (c : Thread nD τ) M3 fullShare (newSh i X3 X7) ∗ owns (c : Thread nD τ) M4 fullShare (newQl i X4 X6 X5 X8)
            ∗ owns (c : Thread nD τ) M5 fullShare (newSl i X5 X8) ∗ owns (c : Thread nD τ) M6 fullShare (newXr i X0 X1 X6)
            ∗ owns (c : Thread nD τ) M7 fullShare (newAmH i X0 X1 X7) ∗ owns (c : Thread nD τ) M8 fullShare (newAmL i X0 X1 X8)) -∗ K ⟨⟩))
      ⊢ wp frame (wpE (defs₀ (F := F)) Variants.none c none) E
          (cc0_rotate_quantise i M0 w0 M1 w1 M2 w2 M3 w3 M4 w4 M5 w5 M6 w6 M7 w7 M8 w8) K := by
  have h4 := cond4_iff i
  have h7 := cond7_iff i
  simp only [cc0_rotate_quantise_eq_skeleton]; unfold cc0_rotate_quantise_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  have e0 : M0.view.readAt (Elt F) (Rect.unit ![0, 0] S512x8192.size inb_S512x8192_S512x8192_0_0).toLoadRect f0 = M0.view.read (Elt F) f0 := readAt_full _ _ off0 _
  have e1 : M1.view.readAt (Elt F) (Rect.unit ![0, 0] S8192x512.size inb_S8192x512_S8192x512_0_0).toLoadRect f1 = M1.view.read (Elt F) f1 := readAt_full _ _ off0 _
  have e3 : M3.view.readAt (Elt F) (Rect.unit ![0, 0] S512x128.size inb_S512x128_S512x128_0_0).toLoadRect f3 = M3.view.read (Elt F) f3 := readAt_full _ _ off0 _
  have e5 : M5.view.readAt (Elt F) (Rect.unit ![0, 0] S512x128.size inb_S512x128_S512x128_0_0).toLoadRect f5 = M5.view.read (Elt F) f5 := readAt_full _ _ off0 _
  have e7 : M7.view.readAt (Elt F) (Rect.unit ![0, 0] S512x128.size inb_S512x128_S512x128_0_0).toLoadRect f7 = M7.view.read (Elt F) f7 := readAt_full _ _ off0 _
  have e8 : M8.view.readAt (Elt F) (Rect.unit ![0, 0] S512x128.size inb_S512x128_S512x128_0_0).toLoadRect f8 = M8.view.read (Elt F) f8 := readAt_full _ _ off0 _
  have g3 : M3.view.readCov (Val := Elt F) [⟨Rect.unit ![0, 0] S512x128.size inb_S512x128_S512x128_0_0, k0_pay1 (M7.view.read (Elt F) f7)⟩]
      (Rect.unit ![0, 0] S512x128.size inb_S512x128_S512x128_0_0).toLoadRect = k0_pay1 (M7.view.read (Elt F) f7) :=
    View.readCov_unit_zero M3.view off0 _ _
  have g5 : M5.view.readCov (Val := Elt F) [⟨Rect.unit ![0, 0] S512x128.size inb_S512x128_S512x128_0_0, k0_pay2 (M8.view.read (Elt F) f8)⟩]
      (Rect.unit ![0, 0] S512x128.size inb_S512x128_S512x128_0_0).toLoadRect = k0_pay2 (M8.view.read (Elt F) f8) :=
    View.readCov_unit_zero M5.view off0 _ _
  by_cases h3 : k0_cond3 i = 1#1 <;> by_cases h1 : k0_cond1 i = 1#1 <;> by_cases h2 : k0_cond2 i = 1#1 <;> by_cases h5 : k0_cond5 i = 1#1
  all_goals
    simp only [h3, not_true_eq_false, not_false_eq_true, iff_true, iff_false] at h4 h7
    have h6 : (Scalar.cmpi .ne (Scalar.extui (Scalar.cmpi .slt (BitVec.ofNat 32 (i 1).val) 2#32)) 0#32 = 1#1) = (k0_cond3 i = 1#1) := rfl
    simp only [h3] at h6
    (try simp only [eq_iff_iff, iff_true, iff_false] at h6)
    sl_exec
    sl_step
    iapply Hk
    isplitl [H0]; · iexists f0; isplitr; · ipureintro; rfl
                    iexact H0
    isplitl [H1]; · iexists f1; isplitr; · ipureintro; rfl
                    iexact H1
    isplitl [H2]
    · iexists _; isplitr; swap; · iexact H2
      ipureintro
      simp only [newQh, newSh, h1, h2, h3, h5, not_true_eq_false, not_false_eq_true, _root_.and_self, _root_.and_true, _root_.true_and, _root_.and_false, _root_.false_and, if_true, if_false]
      all_goals refine (View.read_writes_eq_canon _ _ _ (cover4 _ _ _ _)).trans ?_
      all_goals exact hiCodes_eq (congrArg k0_pay3 rfl) rfl
    isplitl [H3]
    · iexists _; isplitr; swap; · iexact H3
      ipureintro
      simp only [newSh, h1, h2, h3, h5, not_true_eq_false, not_false_eq_true, _root_.and_self, _root_.and_true, _root_.true_and, _root_.and_false, _root_.false_and, if_true, if_false]
      all_goals (exact read_full _ _ off0 _ _)
    isplitl [H4]
    · iexists _; isplitr; swap; · iexact H4
      ipureintro
      simp only [newQl, newSl, h1, h2, h3, h5, not_true_eq_false, not_false_eq_true, _root_.and_self, _root_.and_true, _root_.true_and, _root_.and_false, _root_.false_and, if_true, if_false]
      all_goals refine (View.read_writes_eq_canon _ _ _ (cover4 _ _ _ _)).trans ?_
      all_goals exact loCodes_eq (congrArg k0_pay3 rfl) rfl
    isplitl [H5]
    · iexists _; isplitr; swap; · iexact H5
      ipureintro
      simp only [newSl, h1, h2, h3, h5, not_true_eq_false, not_false_eq_true, _root_.and_self, _root_.and_true, _root_.true_and, _root_.and_false, _root_.false_and, if_true, if_false]
      all_goals (exact read_full _ _ off0 _ _)
    isplitl [H6]
    · iexists _; isplitr; swap; · iexact H6
      ipureintro
      simp only [newXr, h1, h2, h3, h5, not_true_eq_false, not_false_eq_true, _root_.and_self, _root_.and_true, _root_.true_and, _root_.and_false, _root_.false_and, if_true, if_false]
      all_goals (exact read_one _ _ (chunkRect i) _)
    isplitl [H7]
    · iexists _; isplitr; swap; · iexact H7
      ipureintro
      simp only [newAmH, h1, h2, h3, h5, not_true_eq_false, not_false_eq_true, _root_.and_self, _root_.and_true, _root_.true_and, _root_.and_false, _root_.false_and, if_true, if_false]
      all_goals (exact read_full _ _ off0 _ _)
    · iexists _; isplitr; swap; · iexact H8
      ipureintro
      simp only [newAmL, h1, h2, h3, h5, not_true_eq_false, not_false_eq_true, _root_.and_self, _root_.and_true, _root_.true_and, _root_.and_false, _root_.false_and, if_true, if_false]
      all_goals (exact read_full _ _ off0 _ _)

end Cert.Kernel.Rot
-- ==== Proof.LinBody.lean ====
/-
  The body of `mixed_linear` at one grid point, as a step on the contents of the buffers it touches.
-/
module

public import proofs.«01_k».proof.Proof.Gen.Kernel.Skeleton
public import proofs.«01_k».proof.Proof.Gen.Kernel.Launch
public import Idealize.ShloMosaic.Lib.Pipeline.FrameBody
public import Idealize.ShloMosaic.Lib.Pipeline.Value
public import Idealize.ShloMosaic.Lib.Tactic
public import Idealize.ShloMosaic.Lib.UnfoldOut
public import Idealize.ShloMosaic.Lib.WordCmp
public import proofs.«01_k».proof.Proof.RotBody

@[expose] public section

set_option maxRecDepth 16384

noncomputable section

namespace Cert.Kernel.Lin

open Cert.Kernel Cert.Kernel.Gen
open Cert.Kernel.Rot (read_one read_full readAt_full off0)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight tile's rows this point stores, in the slot of the current tile. -/
def whRect (i : grid1.Coords) : Rect S2x1024x512 := Rect.unit (s := S2x1024x512) ![(i 0).val % 2, 64 * (i 1).val, 0] S1x64x512.size (by
    intro a
    have h : (i 1).val < 16 := (i 1).isLt
    fin_cases a
    · show (i 0).val % 2 + 1 ≤ 2; omega
    · show 64 * (i 1).val + 64 ≤ 1024; omega
    · show 0 + 512 ≤ 512; omega)
def wlRect (i : grid1.Coords) : Rect S2x7168x512 := Rect.unit (s := S2x7168x512) ![(i 0).val % 2, 448 * (i 1).val, 0] S1x448x512.size (by
    intro a
    have h : (i 1).val < 16 := (i 1).isLt
    fin_cases a
    · show (i 0).val % 2 + 1 ≤ 2; omega
    · show 448 * (i 1).val + 448 ≤ 7168; omega
    · show 0 + 512 ≤ 512; omega)
/-- The slot the previous tile's weights lie in. -/
def whSlot (i : grid1.Coords) : Rect S2x1024x512 := Rect.unit (s := S2x1024x512) ![((i 0).val + 1) % 2, 0, 0] S1x1024x512.size (by
    intro a
    fin_cases a
    · show ((i 0).val + 1) % 2 + 1 ≤ 2; omega
    · show 0 + 1024 ≤ 1024; omega
    · show 0 + 512 ≤ 512; omega)
def wlSlot (i : grid1.Coords) : Rect S2x7168x512 := Rect.unit (s := S2x7168x512) ![((i 0).val + 1) % 2, 0, 0] S1x7168x512.size (by
    intro a
    fin_cases a
    · show ((i 0).val + 1) % 2 + 1 ≤ 2; omega
    · show 0 + 7168 ≤ 7168; omega
    · show 0 + 512 ≤ 512; omega)

/-- The grid point at two coordinates. -/
def pt (a : Fin 44) (b : Fin 16) : grid1.Coords := fun k => match k with | 0 => a | 1 => b
theorem pt_eta (i : grid1.Coords) : pt (i 0) (i 1) = i := by funext k; fin_cases k <;> rfl

theorem off1_eq (i : grid1.Coords) : k1_off1 i = ![(i 0).val % 2, 64 * (i 1).val, 0] := by
  have H : ∀ (a : Fin 44) (b : Fin 16), k1_off1 (pt a b) = ![a.val % 2, 64 * b.val, 0] := by decide +kernel
  have h := H (i 0) (i 1); rw [pt_eta] at h; exact h
theorem off2_eq (i : grid1.Coords) : k1_off2 i = ![(i 0).val % 2, 448 * (i 1).val, 0] := by
  have H : ∀ (a : Fin 44) (b : Fin 16), k1_off2 (pt a b) = ![a.val % 2, 448 * b.val, 0] := by decide +kernel
  have h := H (i 0) (i 1); rw [pt_eta] at h; exact h
theorem off3_eq (i : grid1.Coords) : k1_off3 i = ![((i 0).val + 1) % 2, 0, 0] := by
  have H : ∀ (a : Fin 44) (b : Fin 16), k1_off3 (pt a b) = ![(a.val + 1) % 2, 0, 0] := by decide +kernel
  have h := H (i 0) (i 1); rw [pt_eta] at h; exact h
theorem off4_eq (i : grid1.Coords) : k1_off4 i = ![((i 0).val + 1) % 2, 0, 0] := by
  have H : ∀ (a : Fin 44) (b : Fin 16), k1_off4 (pt a b) = ![(a.val + 1) % 2, 0, 0] := by decide +kernel
  have h := H (i 0) (i 1); rw [pt_eta] at h; exact h
theorem off5_eq (i : grid1.Coords) : k1_off5 i = ![(i 0).val % 2, 64 * (i 1).val, 0] := off1_eq i
theorem off6_eq (i : grid1.Coords) : k1_off6 i = ![(i 0).val % 2, 448 * (i 1).val, 0] := off2_eq i

theorem cond2_iff (i : grid1.Coords) : k1_cond2 i = 1#1 ↔ ¬ k1_cond1 i = 1#1 := by
  have H : ∀ (a : Fin 44) (b : Fin 16), k1_cond2 (pt a b) = 1#1 ↔ ¬ k1_cond1 (pt a b) = 1#1 := by decide +kernel
  have h := H (i 0) (i 1); rw [pt_eta] at h; exact h

/-- A packed weight tile's rows, unpacked to the 512 interleaved columns. -/
def unpacked (v : Vec F S448x256 .i8) : Vec F S1x448x512 .bf16 :=
  have v26 : IVec S112x128 32 := iota .tc S112x128 32 [1] iota_S112x128_d1_w32
  k1_pay1 (k1_pay15 v26 k1_pay5 (k1_pay9 (k1_pay7 v) k1_pay8) (k1_pay10 v26 k1_pay5 (k1_pay6 v))
    (k1_pay11 (k1_pay4 v)) (k1_pay12 v26) (k1_pay13 v26) (k1_pay14 v26))
theorem unpacked_eq (v : Vec F S448x256 .i8) :
    k1_pay2 (F := F) (iota .tc S112x128 32 [1] iota_S112x128_d1_w32) k1_pay28 (k1_pay30 v)
      (k1_pay32 k1_pay28 (k1_pay29 v) k1_pay31 64#32) (k1_pay33 (k1_pay27 v))
      (k1_pay34 (k1_pay27 v) (iota .tc S112x128 32 [1] iota_S112x128_d1_w32) k1_pay28) 2155905152#32 = unpacked v := rfl
theorem pay26_eq (v : Vec F S64x512 .i8) : k1_pay26 v = k1_pay3 v := rfl

/-- The output block: four stores of 128 columns, last first. -/
def yBlk (qh : Vec F S768x1024 .i8) (sh : Vec F S768x128 .f32) (ql : Vec F S768x7168 .i8) (sl : Vec F S768x128 .f32)
    (whs wls : Vec F S1x512 .f32) (wh : Vec F S1x1024x512 .bf16) (wl : Vec F S1x7168x512 .bf16) : Vec F S768x512 .bf16 :=
  View.canon [⟨Rect.unit (s := S768x512) ![0, 384] S768x128.size inb_S768x512_S768x128_0_384, k1_pay25 (k1_pay16 qh wh) (k1_pay17 ql wl) sh (View.ld whs (Rect.unit (s := S1x512) ![0, 384] S1x128.size inb_S1x512_S1x128_0_384)) sl (View.ld wls (Rect.unit (s := S1x512) ![0, 384] S1x128.size inb_S1x512_S1x128_0_384))⟩,
    ⟨Rect.unit (s := S768x512) ![0, 256] S768x128.size inb_S768x512_S768x128_0_256, k1_pay24 (k1_pay17 ql wl) (k1_pay22 (k1_pay16 qh wh) sh (View.ld whs (Rect.unit (s := S1x512) ![0, 256] S1x128.size inb_S1x512_S1x128_0_256))) (k1_pay23 sl) (View.ld wls (Rect.unit (s := S1x512) ![0, 256] S1x128.size inb_S1x512_S1x128_0_256))⟩,
    ⟨Rect.unit (s := S768x512) ![0, 128] S768x128.size inb_S768x512_S768x128_0_128, k1_pay21 (k1_pay16 qh wh) (k1_pay17 ql wl) sh (View.ld whs (Rect.unit (s := S1x512) ![0, 128] S1x128.size inb_S1x512_S1x128_0_128)) sl (View.ld wls (Rect.unit (s := S1x512) ![0, 128] S1x128.size inb_S1x512_S1x128_0_128))⟩,
    ⟨Rect.unit (s := S768x512) ![0, 0] S768x128.size inb_S768x512_S768x128_0_0, k1_pay20 (k1_pay17 ql wl) (k1_pay18 qh wh sh (View.ld whs (Rect.unit (s := S1x512) ![0, 0] S1x128.size inb_S1x512_S1x128_0_0))) (k1_pay19 sl) (View.ld wls (Rect.unit (s := S1x512) ![0, 0] S1x128.size inb_S1x512_S1x128_0_0))⟩]

theorem cover4 (p0 p1 p2 p3 : Vec F S768x128 .bf16) (y : S768x512.Idx) :
    ∃ p ∈ ([⟨Rect.unit (s := S768x512) ![0, 384] S768x128.size inb_S768x512_S768x128_0_384, p3⟩, ⟨Rect.unit (s := S768x512) ![0, 256] S768x128.size inb_S768x512_S768x128_0_256, p2⟩, ⟨Rect.unit (s := S768x512) ![0, 128] S768x128.size inb_S768x512_S768x128_0_128, p1⟩, ⟨Rect.unit (s := S768x512) ![0, 0] S768x128.size inb_S768x512_S768x128_0_0, p0⟩] : List (View.Piece (Elt F) S768x512 .bf16)), y ∈ p.1.set :=
  View.cover_of_tiled [⟨Rect.unit (s := S768x512) ![0, 384] S768x128.size inb_S768x512_S768x128_0_384, p3⟩, ⟨Rect.unit (s := S768x512) ![0, 256] S768x128.size inb_S768x512_S768x128_0_256, p2⟩, ⟨Rect.unit (s := S768x512) ![0, 128] S768x128.size inb_S768x512_S768x128_0_128, p1⟩, ⟨Rect.unit (s := S768x512) ![0, 0] S768x128.size inb_S768x512_S768x128_0_0, p0⟩] S768x128.size (by rfl) y

/-- The output block after the point: stored from the second weight tile on. -/
def newY (i : grid1.Coords) (qh : Vec F S768x1024 .i8) (sh : Vec F S768x128 .f32) (ql : Vec F S768x7168 .i8) (sl : Vec F S768x128 .f32)
    (whs wls : Vec F S1x512 .f32) (y : Vec F S768x512 .bf16) (wh : Vec F S2x1024x512 .bf16) (wl : Vec F S2x7168x512 .bf16) : Vec F S768x512 .bf16 :=
  if k1_cond1 i = 1#1 then y else yBlk qh sh ql sl whs wls (View.ld wh (whSlot i)) (View.ld wl (wlSlot i))
/-- The int8 weights' scratch after the point. -/
def newWh (i : grid1.Coords) (w : Vec F S64x512 .i8) (wh : Vec F S2x1024x512 .bf16) : Vec F S2x1024x512 .bf16 :=
  (whRect i).overlay wh (k1_pay3 w)
/-- The int4 weights' scratch after the point. -/
def newWl (i : grid1.Coords) (w : Vec F S448x256 .i8) (wl : Vec F S2x7168x512 .bf16) : Vec F S2x7168x512 .bf16 :=
  (wlRect i).overlay wl (unpacked w)

/-- A load from a scratch at an offset known in closed form. -/
theorem readAt_congr {sp : Space} {s : Shape} {e : EltTy} (M : Memref sig .tc sp s e) (f : M.view.ty.Contents (Elt F))
    {o o' : Fin s.rank → Nat} (z : Fin s.rank → Nat) (h : o = o') (hi : ∀ a, o a + z a ≤ s.size a) (hi' : ∀ a, o' a + z a ≤ s.size a) :
    M.view.readAt (Elt F) (Rect.unit o z hi).toLoadRect f = View.ld (M.view.read (Elt F) f) (Rect.unit o' z hi') := by
  subst h; rfl

/-- One store into a scratch at an offset known in closed form. -/
theorem read_one' {sp : Space} {s : Shape} {e : EltTy} (M : Memref sig .tc sp s e) (f : M.view.ty.Contents (Elt F))
    {o o' : Fin s.rank → Nat} (z : Fin s.rank → Nat) (h : o = o') (hi : ∀ a, o a + z a ≤ s.size a) (hi' : ∀ a, o' a + z a ≤ s.size a)
    (w : (⟨s.rank, z⟩ : Shape).Idx → Elt F e) : M.view.read (Elt F) (M.view.writes (Elt F) f [⟨Rect.unit o z hi, w⟩])
      = (Rect.unit o' z hi').overlay (M.view.read (Elt F) f) w := by
  subst h; exact read_one M f (Rect.unit o z hi) w

theorem yBlk_eq {qh : Vec F S768x1024 .i8} {sh : Vec F S768x128 .f32} {ql : Vec F S768x7168 .i8} {sl : Vec F S768x128 .f32}
    {whs wls : Vec F S1x512 .f32} {wh : Vec F S1x1024x512 .bf16} {wl : Vec F S1x7168x512 .bf16}
    {ah al : Vec F S768x512 .f32} {p38 p40 p76 p78 : Vec F S768x128 .f32} (hah : ah = k1_pay16 qh wh) (hal : al = k1_pay17 ql wl)
    (h38 : p38 = k1_pay18 qh wh sh (View.ld whs (Rect.unit (s := S1x512) ![0, 0] S1x128.size inb_S1x512_S1x128_0_0))) (h40 : p40 = k1_pay19 sl)
    (h76 : p76 = k1_pay22 (k1_pay16 qh wh) sh (View.ld whs (Rect.unit (s := S1x512) ![0, 256] S1x128.size inb_S1x512_S1x128_0_256))) (h78 : p78 = k1_pay23 sl) :
    View.canon ([⟨Rect.unit (s := S768x512) ![0, 384] S768x128.size inb_S768x512_S768x128_0_384, k1_pay25 ah al sh (View.ld whs (Rect.unit (s := S1x512) ![0, 384] S1x128.size inb_S1x512_S1x128_0_384)) sl (View.ld wls (Rect.unit (s := S1x512) ![0, 384] S1x128.size inb_S1x512_S1x128_0_384))⟩,
      ⟨Rect.unit (s := S768x512) ![0, 256] S768x128.size inb_S768x512_S768x128_0_256, k1_pay24 al p76 p78 (View.ld wls (Rect.unit (s := S1x512) ![0, 256] S1x128.size inb_S1x512_S1x128_0_256))⟩,
      ⟨Rect.unit (s := S768x512) ![0, 128] S768x128.size inb_S768x512_S768x128_0_128, k1_pay21 ah al sh (View.ld whs (Rect.unit (s := S1x512) ![0, 128] S1x128.size inb_S1x512_S1x128_0_128)) sl (View.ld wls (Rect.unit (s := S1x512) ![0, 128] S1x128.size inb_S1x512_S1x128_0_128))⟩,
      ⟨Rect.unit (s := S768x512) ![0, 0] S768x128.size inb_S768x512_S768x128_0_0, k1_pay20 al p38 p40 (View.ld wls (Rect.unit (s := S1x512) ![0, 0] S1x128.size inb_S1x512_S1x128_0_0))⟩] : List (View.Piece (Elt F) S768x512 .bf16))
      = yBlk qh sh ql sl whs wls wh wl := by subst hah hal h38 h40 h76 h78; rfl

set_option maxHeartbeats 1600000 in
/-- The point's step on the eleven buffers it touches, in either control case. -/
theorem sound_linear (c : Dev nD) (E : Set ℕ) (i : grid1.Coords)
    (M0 : Memref sig .tc .vmem S768x1024 .i8) (w0 : M0.IsWhole)
    (M1 : Memref sig .tc .vmem S768x128 .f32) (w1 : M1.IsWhole)
    (M2 : Memref sig .tc .vmem S768x7168 .i8) (w2 : M2.IsWhole)
    (M3 : Memref sig .tc .vmem S768x128 .f32) (w3 : M3.IsWhole)
    (M4 : Memref sig .tc .vmem S64x512 .i8) (w4 : M4.IsWhole)
    (M5 : Memref sig .tc .vmem S1x512 .f32) (w5 : M5.IsWhole)
    (M6 : Memref sig .tc .vmem S448x256 .i8) (w6 : M6.IsWhole)
    (M7 : Memref sig .tc .vmem S1x512 .f32) (w7 : M7.IsWhole)
    (M8 : Memref sig .tc .vmem S768x512 .bf16) (w8 : M8.IsWhole)
    (M9 : Memref sig .tc .vmem S2x1024x512 .bf16) (w9 : M9.IsWhole)
    (M10 : Memref sig .tc .vmem S2x7168x512 .bf16) (w10 : M10.IsWhole)
    (X0 : Vec F S768x1024 .i8) (X1 : Vec F S768x128 .f32) (X2 : Vec F S768x7168 .i8) (X3 : Vec F S768x128 .f32) (X4 : Vec F S64x512 .i8) (X5 : Vec F S1x512 .f32) (X6 : Vec F S448x256 .i8) (X7 : Vec F S1x512 .f32) (X8 : Vec F S768x512 .bf16) (X9 : Vec F S2x1024x512 .bf16) (X10 : Vec F S2x7168x512 .bf16)
    (K : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare (newY i X0 X1 X2 X3 X5 X7 X8 X9 X10) ∗ owns (c : Thread nD τ) M9 fullShare (newWh i X4 X9) ∗ owns (c : Thread nD τ) M10 fullShare (newWl i X6 X10)) -∗ K ⟨⟩))
      ⊢ wp frame (wpE (defs₀ (F := F)) Variants.none c none) E
          (cc1_mixed_linear i M0 w0 M1 w1 M2 w2 M3 w3 M4 w4 M5 w5 M6 w6 M7 w7 M8 w8 M9 w9 M10 w10) K := by
  have h2 := cond2_iff i
  simp only [cc1_mixed_linear_eq_skeleton]; unfold cc1_mixed_linear_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  have e0 : M0.view.readAt (Elt F) (Rect.unit ![0, 0] S768x1024.size inb_S768x1024_S768x1024_0_0).toLoadRect f0 = M0.view.read (Elt F) f0 := readAt_full _ _ off0 _
  have e1 : M1.view.readAt (Elt F) (Rect.unit ![0, 0] S768x128.size inb_S768x128_S768x128_0_0).toLoadRect f1 = M1.view.read (Elt F) f1 := readAt_full _ _ off0 _
  have e2 : M2.view.readAt (Elt F) (Rect.unit ![0, 0] S768x7168.size inb_S768x7168_S768x7168_0_0).toLoadRect f2 = M2.view.read (Elt F) f2 := readAt_full _ _ off0 _
  have e3 : M3.view.readAt (Elt F) (Rect.unit ![0, 0] S768x128.size inb_S768x128_S768x128_0_0).toLoadRect f3 = M3.view.read (Elt F) f3 := readAt_full _ _ off0 _
  have e4 : M4.view.readAt (Elt F) (Rect.unit ![0, 0] S64x512.size inb_S64x512_S64x512_0_0).toLoadRect f4 = M4.view.read (Elt F) f4 := readAt_full _ _ off0 _
  have e6 : M6.view.readAt (Elt F) (Rect.unit ![0, 0] S448x256.size inb_S448x256_S448x256_0_0).toLoadRect f6 = M6.view.read (Elt F) f6 := readAt_full _ _ off0 _
  by_cases h1 : k1_cond1 i = 1#1
  · simp only [h1, not_true_eq_false, iff_false] at h2
    sl_exec
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]
    · iexists f8; isplitr; swap; · iexact H8
      ipureintro; rw [newY, if_pos h1]
    isplitl [H9]
    · iexists _; isplitr; swap; · iexact H9
      ipureintro
      exact read_one' M9 f9 S1x64x512.size (off1_eq i) _ _ _
    · iexists _; isplitr; swap; · iexact H10
      ipureintro
      exact read_one' M10 f10 S1x448x512.size (off2_eq i) _ _ _
  · simp only [h1, not_false_eq_true, iff_true] at h2
    have hw : M9.view.readAt (Elt F) (Rect.unit (s := S2x1024x512) (k1_off3 i) S1x1024x512.size (k1_off3_inb i h2)).toLoadRect f9
        = View.ld (M9.view.read (Elt F) f9) (whSlot i) :=
      readAt_congr M9 f9 S1x1024x512.size (off3_eq i) _ _
    have hl : M10.view.readAt (Elt F) (Rect.unit (s := S2x7168x512) (k1_off4 i) S1x7168x512.size (k1_off4_inb i h2)).toLoadRect f10
        = View.ld (M10.view.read (Elt F) f10) (wlSlot i) :=
      readAt_congr M10 f10 S1x7168x512.size (off4_eq i) _ _
    sl_exec
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    isplitl [H8]
    · iexists _; isplitr; swap; · iexact H8
      ipureintro; rw [newY, if_neg h1]
      refine (View.read_writes_eq_canon _ _ _ (cover4 _ _ _ _)).trans ?_

      exact yBlk_eq rfl rfl rfl rfl rfl rfl
    isplitl [H9]
    · iexists _; isplitr; swap; · iexact H9
      ipureintro
      exact read_one' M9 f9 S1x64x512.size (off5_eq i) _ _ _
    · iexists _; isplitr; swap; · iexact H10
      ipureintro
      exact read_one' M10 f10 S1x448x512.size (off6_eq i) _ _ _

end Cert.Kernel.Lin
-- ==== Proof.RotDat.lean ====
/-
  `rotate_quantise` over its grid: which case each point is in, what the scratch buffers hold before each point, and the
  step of that invariant.

  Points are numbered as the grid runs them: point `16·i + j` is chunk `j` of row tile `i` (24 tiles, then one row of points
  that only writes the last tile's codes).
-/
module

public import proofs.«01_k».proof.Proof.RotBody
public import proofs.«01_k».proof.Proof.Gen.Kernel.Points

@[expose] public section

set_option maxRecDepth 16384

noncomputable section

namespace Cert.Kernel.Rot

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat Cfg Window BodyObligation cellOf)

variable {F : FTy → Type} [FloatOps F]

/-! ## The points -/

/-- Point `n` of the grid. -/
def pt (n : ℕ) : Fin grid0.N := ⟨n % 400, by rw [N_0]; exact Nat.mod_lt _ (by omega)⟩

theorem pt_val (t : Fin grid0.N) : pt t.val = t :=
  Fin.ext (Nat.mod_eq_of_lt (lt_of_lt_of_eq t.isLt N_0))

theorem c1_iff : ∀ t : Fin grid0.N, k0_cond1 (grid0.coords t) = 1#1 ↔ 16 ≤ t.val := by decide +kernel
theorem c2_iff : ∀ t : Fin grid0.N, k0_cond2 (grid0.coords t) = 1#1 ↔ t.val % 16 = 0 := by decide +kernel
theorem c3_iff : ∀ t : Fin grid0.N, k0_cond3 (grid0.coords t) = 1#1 ↔ t.val % 16 < 2 := by decide +kernel
theorem c5_iff : ∀ t : Fin grid0.N, k0_cond5 (grid0.coords t) = 1#1 ↔ t.val < 384 := by decide +kernel
theorem col_eq : ∀ t : Fin grid0.N, (grid0.coords t 1).val = t.val % 16 := by decide +kernel

/-! ## Chunks of the rotated tile -/

theorem ld_unit_congr {s : Shape} {e' : EltTy} {o o' sz : Fin s.rank → Nat} {h : ∀ a, o a + sz a ≤ s.size a} {h' : ∀ a, o' a + sz a ≤ s.size a}
    (e : o = o') (f : Vec F s e') : View.ld f (Rect.unit (s := s) o sz h) = View.ld f (Rect.unit (s := s) o' sz h') := by subst e; rfl

theorem off_of_col {i i' : grid0.Coords} (h : (i 1).val = (i' 1).val) : k0_off1 i = k0_off1 i' := by
  rw [k0_off1_eq, k0_off1_eq, h]

theorem ld_chunk_congr {i i' : grid0.Coords} (h : (i 1).val = (i' 1).val) (f : Vec F S16x512x512 .f32) :
    (View.ld f (chunkRect i) : Vec F S1x512x512 .f32) = View.ld f (chunkRect i') := ld_unit_congr (off_of_col h) f

theorem ld_overlay_same (i : grid0.Coords) (f : Vec F S16x512x512 .f32) (w : Vec F S1x512x512 .f32) :
    View.ld ((chunkRect i).overlay f w) (chunkRect i) = w := by
  funext y
  exact Rect.overlay_emb (chunkRect i) f w y

theorem ld_overlay_other {i i' : grid0.Coords} (h : (i 1).val ≠ (i' 1).val) (f : Vec F S16x512x512 .f32) (w : Vec F S1x512x512 .f32) :
    View.ld ((chunkRect i).overlay f w) (chunkRect i') = View.ld f (chunkRect i') := by
  funext y
  refine Rect.overlay_of_not_mem (chunkRect i) f w fun hm => h ?_
  obtain ⟨x, hx⟩ : ∃ x, (chunkRect i).emb x = (chunkRect i').emb y := (chunkRect i).exists_idx_of_mem hm
  have e := congrArg (fun z : S16x512x512.Idx => (z 0).val) hx
  simp only [Rect.emb_apply] at e
  have e1 : (chunkRect i).off 0 = (i 1).val := by show k0_off1 i 0 = _; rw [k0_off1_eq]; rfl
  have e2 : (chunkRect i').off 0 = (i' 1).val := by show k0_off1 i' 0 = _; rw [k0_off1_eq]; rfl
  have hx0 : (x 0).val < 1 := (x 0).isLt
  have hy0 : (y 0).val < 1 := (y 0).isLt
  have e3 : k0_off1 i 0 + 1 * (x 0).val = k0_off1 i' 0 + 1 * (y 0).val := e
  rw [k0_off1_eq, k0_off1_eq] at e3
  have e4 : (i 1).val + 1 * (x 0).val = (i' 1).val + 1 * (y 0).val := e3
  omega

/-! ## The running maximum starts afresh on the first chunk of each group -/

theorem first_hi : ∀ t : Fin grid0.N, t.val % 16 = 0 →
    Scalar.ori (Scalar.cmpi .eq (BitVec.ofNat 32 (grid0.coords t 1).val) 0#32) (Scalar.cmpi .eq (BitVec.ofNat 32 (grid0.coords t 1).val) 2#32) = 1#1 := by
  decide +kernel
theorem first_lo : ∀ t : Fin grid0.N, t.val % 16 = 2 →
    Scalar.ori (Scalar.cmpi .eq (BitVec.ofNat 32 (grid0.coords t 1).val) 0#32) (Scalar.cmpi .eq (BitVec.ofNat 32 (grid0.coords t 1).val) 2#32) = 1#1 := by
  decide +kernel

theorem pay7_first (t : Fin grid0.N) (h : t.val % 16 = 0) (x : Vec F S512x8192 .bf16) (u : Vec F S8192x512 .bf16) (am : Vec F S512x128 .f32) :
    k0_pay7 (grid0.coords t) x u am = k0_pay6 x u := by
  show shapeCast S512x128 (Scalar.select (Scalar.ori _ _) (k0_pay6 x u) (maximumf am (k0_pay6 x u))) _ = _
  rw [shapeCast_self, first_hi t h]; rfl

theorem pay8_first (t : Fin grid0.N) (h : t.val % 16 = 2) (x : Vec F S512x8192 .bf16) (u : Vec F S8192x512 .bf16) (am : Vec F S512x128 .f32) :
    k0_pay8 (grid0.coords t) x u am = k0_pay6 x u := by
  show shapeCast S512x128 (Scalar.select (Scalar.ori _ _) (k0_pay6 x u) (maximumf am (k0_pay6 x u))) _ = _
  rw [shapeCast_self, first_lo t h]; rfl

/-! ## What the points compute -/

variable (x : ℕ → Vec F S512x8192 .bf16) (u : ℕ → Vec F S8192x512 .bf16)

/-- The rotated chunk of point `n`. -/
def prodN (n : ℕ) : Vec F S1x512x512 .f32 := k0_pay5 (x n) (u n)
/-- Its column maxima, folded to 128 lanes. -/
def laneN (n : ℕ) : Vec F S512x128 .f32 := k0_pay6 (x n) (u n)
/-- The maxima over the two int8 chunks of the row tile that starts at point `q`. -/
def hiMax (q : ℕ) : Vec F S512x128 .f32 := k0_pay7 (grid0.coords (pt (q + 1))) (x (q + 1)) (u (q + 1)) (laneN x u q)
/-- The maxima over its first `k + 1` int4 chunks. -/
def loMax (q : ℕ) : ℕ → Vec F S512x128 .f32
  | 0 => laneN x u (q + 2)
  | k + 1 => k0_pay8 (grid0.coords (pt (q + k + 3))) (x (q + k + 3)) (u (q + k + 3)) (loMax q k)
/-- The two scales of that row tile. -/
def scH (q : ℕ) : Vec F S512x128 .f32 := k0_pay1 (hiMax x u q)
def scL (q : ℕ) : Vec F S512x128 .f32 := k0_pay2 (loMax x u q 13)

/-- What the scratch buffers hold before point `n`. -/
structure Inv (n : ℕ) (f6 : Vec F S16x512x512 .f32) (f7 f8 : Vec F S512x128 .f32) : Prop where
  tile : ∀ q : ℕ, q < 384 → q < n → n ≤ q + 16 → View.ld f6 (chunkRect (grid0.coords (pt q))) = prodN x u q
  hi1 : ∀ k : ℕ, k < 24 → n = 16 * k + 1 → f7 = laneN x u (16 * k)
  hi2 : ∀ k : ℕ, k < 24 → 16 * k + 2 ≤ n → n ≤ 16 * k + 16 → f7 = hiMax x u (16 * k)
  lo : ∀ k : ℕ, k < 24 → 16 * k + 3 ≤ n → n ≤ 16 * k + 16 → f8 = loMax x u (16 * k) (n - 16 * k - 3)

theorem Inv_zero (f6 : Vec F S16x512x512 .f32) (f7 f8 : Vec F S512x128 .f32) : Inv x u 0 f6 f7 f8 :=
  ⟨fun _ _ h _ => absurd h (Nat.not_lt_zero _), fun _ _ h => by omega, fun _ _ h _ => by omega, fun _ _ h _ => by omega⟩

theorem Inv_step (t : Fin grid0.N) {f6 : Vec F S16x512x512 .f32} {f7 f8 : Vec F S512x128 .f32} (h : Inv x u t.val f6 f7 f8) :
    Inv x u (t.val + 1) (newXr (grid0.coords t) (x t.val) (u t.val) f6) (newAmH (grid0.coords t) (x t.val) (u t.val) f7)
      (newAmL (grid0.coords t) (x t.val) (u t.val) f8) := by
  have hlt : t.val < 400 := lt_of_lt_of_eq t.isLt N_0
  have e5 := c5_iff t
  have e3 := c3_iff t
  refine ⟨fun q hq hn hn' => ?_, fun k hk hn => ?_, fun k hk hn hn' => ?_, fun k hk hn hn' => ?_⟩
  · have hcol : ∀ q, q < 400 → (grid0.coords (pt q) 1).val = q % 16 := fun q hq => by
      rw [col_eq]; show q % 400 % 16 = _; rw [Nat.mod_eq_of_lt hq]
    unfold newXr
    by_cases hqt : q = t.val
    · subst hqt; rw [if_pos (e5.mpr hq), pt_val, ld_overlay_same]; rfl
    · split
      · rw [ld_overlay_other (by rw [col_eq, hcol q (by omega)]; omega)]
        exact h.tile q hq (by omega) (by omega)
      · exact h.tile q hq (by omega) (by omega)
  · have e : t.val = 16 * k := by omega
    unfold newAmH
    rw [if_pos ⟨e5.mpr (by omega), e3.mpr (by omega)⟩, pay7_first t (by omega), e]; rfl
  · unfold newAmH
    by_cases e : t.val = 16 * k + 1
    · rw [if_pos ⟨e5.mpr (by omega), e3.mpr (by omega)⟩, h.hi1 k hk e]
      unfold hiMax
      rw [← e, pt_val]
    · rw [if_neg (fun hh => by have := e3.mp hh.2; omega)]
      exact h.hi2 k hk (by omega) (by omega)
  · unfold newAmL
    rw [if_pos ⟨e5.mpr (by omega), fun hh => by have := e3.mp hh; omega⟩]
    by_cases e : t.val = 16 * k + 2
    · rw [pay8_first t (by omega), show t.val + 1 - 16 * k - 3 = 0 by omega]
      unfold loMax laneN
      rw [← e]
    · rw [h.lo k hk (by omega) (by omega)]
      obtain ⟨m, hm⟩ : ∃ m, t.val = 16 * k + m + 3 := ⟨t.val - 16 * k - 3, by omega⟩
      rw [show t.val + 1 - 16 * k - 3 = m + 1 by omega, show t.val - 16 * k - 3 = m by omega]
      show _ = k0_pay8 (grid0.coords (pt (16 * k + m + 3))) (x (16 * k + m + 3)) (u (16 * k + m + 3)) (loMax x u (16 * k) m)
      rw [← hm, pt_val]

/-- At a later tile's point, the scratch chunk the point reads is the previous tile's product. -/
theorem Inv.read (t : Fin grid0.N) {f6 : Vec F S16x512x512 .f32} {f7 f8 : Vec F S512x128 .f32} (h : Inv x u t.val f6 f7 f8) (ht : 16 ≤ t.val) :
    View.ld f6 (chunkRect (grid0.coords t)) = prodN x u (t.val - 16) := by
  have hlt : t.val < 400 := lt_of_lt_of_eq t.isLt N_0
  rw [← h.tile (t.val - 16) (by omega) (by omega) (by omega)]
  refine ld_chunk_congr ?_ f6
  rw [col_eq, col_eq]; show t.val % 16 = (t.val - 16) % 400 % 16; omega

end Cert.Kernel.Rot

end
-- ==== Proof.RotReg.lean ====
/-
  `rotate_quantise` as a region of the program: the proof data of its grid, and its body's obligation at every point.
-/
module

public import proofs.«01_k».proof.Proof.RotDat
public import Idealize.ShloMosaic.Lib.Pipeline.TableIdle

@[expose] public section

set_option maxRecDepth 16384

noncomputable section

namespace Cert.Kernel.Rot

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points write which block -/

theorem idle2_eq : ∀ t : Fin grid0.N, cfg0.idle 2 (grid0.coords t) = decide (t.val < 16 ∨ 2 ≤ t.val % 16) := by decide +kernel
theorem idle3_eq : ∀ t : Fin grid0.N, cfg0.idle 3 (grid0.coords t) = decide (t.val < 16 ∨ t.val % 16 ≠ 0) := by decide +kernel
theorem idle4_eq : ∀ t : Fin grid0.N, cfg0.idle 4 (grid0.coords t) = decide (t.val < 16 ∨ t.val % 16 < 2) := by decide +kernel
theorem idle5_eq : ∀ t : Fin grid0.N, cfg0.idle 5 (grid0.coords t) = decide (t.val < 16 ∨ t.val % 16 ≠ 0) := by decide +kernel

theorem flushF2 : ∀ t : Fin grid0.N, win0_2.flushF t = decide (16 ≤ t.val ∧ (t.val % 16 = 0 ∨ t.val % 16 = 15)) := by decide +kernel
theorem flushF3 : ∀ t : Fin grid0.N, win0_3.flushF t = decide (16 ≤ t.val ∧ t.val % 16 = 15) := by decide +kernel
theorem flushF4 : ∀ t : Fin grid0.N, win0_4.flushF t = decide (16 ≤ t.val ∧ 2 ≤ t.val % 16) := by decide +kernel
theorem flushF5 : ∀ t : Fin grid0.N, win0_5.flushF t = decide (16 ≤ t.val ∧ t.val % 16 = 15) := by decide +kernel

theorem flush2 (t : Fin grid0.N) : (cfg0.win 2).flush t = decide (16 ≤ t.val ∧ (t.val % 16 = 0 ∨ t.val % 16 = 15)) :=
  (Window.flush_eq_flushF (w := win0_2) t).trans (flushF2 t)
theorem flush3 (t : Fin grid0.N) : (cfg0.win 3).flush t = decide (16 ≤ t.val ∧ t.val % 16 = 15) :=
  (Window.flush_eq_flushF (w := win0_3) t).trans (flushF3 t)
theorem flush4 (t : Fin grid0.N) : (cfg0.win 4).flush t = decide (16 ≤ t.val ∧ 2 ≤ t.val % 16) :=
  (Window.flush_eq_flushF (w := win0_4) t).trans (flushF4 t)
theorem flush5 (t : Fin grid0.N) : (cfg0.win 5).flush t = decide (16 ≤ t.val ∧ t.val % 16 = 15) :=
  (Window.flush_eq_flushF (w := win0_5) t).trans (flushF5 t)

theorem fresh2 : ∀ n, n ≤ cfg0.N → cfg0.fresh 2 n = decide (n ≤ 16 ∨ n % 16 < 2) :=
  Cfg.fresh_tab cfg0 2 (fun n => decide (n ≤ 16 ∨ n % 16 < 2)) rfl fun t => by
    rw [flush2 t, idle2_eq t, ← Bool.decide_and, ← Bool.decide_or, decide_eq_decide]; omega
theorem fresh3 : ∀ n, n ≤ cfg0.N → cfg0.fresh 3 n = decide (n ≤ 16 ∨ n % 16 = 0) :=
  Cfg.fresh_tab cfg0 3 (fun n => decide (n ≤ 16 ∨ n % 16 = 0)) rfl fun t => by
    rw [flush3 t, idle3_eq t, ← Bool.decide_and, ← Bool.decide_or, decide_eq_decide]; omega
theorem fresh5 : ∀ n, n ≤ cfg0.N → cfg0.fresh 5 n = decide (n ≤ 16 ∨ n % 16 = 0) :=
  Cfg.fresh_tab cfg0 5 (fun n => decide (n ≤ 16 ∨ n % 16 = 0)) rfl fun t => by
    rw [flush5 t, idle5_eq t, ← Bool.decide_and, ← Bool.decide_or, decide_eq_decide]; omega

/-! ## The proof data -/

variable (V : (c : Dev nD) → (b : Ref sig .tc) → Buf (Elt F) ((c : Thread nD τ).loc b)) (c : Dev nD)

/-- The row tile of `x` and the column chunk of `u` staged at point `t`. -/
def xB (t : Fin grid0.N) : Vec F S512x8192 .bf16 := ((cfg0.win 0).blk t).view.read (Elt F) (V c (Pipeline.arrRef spec0 0))
def uB (t : Fin grid0.N) : Vec F S8192x512 .bf16 := ((cfg0.win 1).blk t).view.read (Elt F) (V c (Pipeline.arrRef spec0 1))
abbrev xN (n : ℕ) := xB V c (pt n)
abbrev uN (n : ℕ) := uB V c (pt n)

/-- The first point of the row tile whose codes point `n` writes: the tile before the point's own. -/
def prevTile (n : ℕ) : ℕ := 16 * (n / 16 - 1)

/-- What point `n` leaves in the four output blocks: the codes and the scales of the previous row tile. -/
def qhAt (n : ℕ) : Vec F S512x512 .i8 := hiCodes (k0_pay3 (prodN (xN V c) (uN V c) (prevTile n + min (n % 16) 1))) (scH (xN V c) (uN V c) (prevTile n))
def shAt (n : ℕ) : Vec F S512x128 .f32 := scH (xN V c) (uN V c) (prevTile n)
def qlAt (n : ℕ) : Vec F S512x512 .i8 := loCodes (k0_pay3 (prodN (xN V c) (uN V c) (prevTile n + n % 16))) (scL (xN V c) (uN V c) (prevTile n))
def slAt (n : ℕ) : Vec F S512x128 .f32 := scL (xN V c) (uN V c) (prevTile n)

/-- A buffer of core `c` held whole at some contents. -/
abbrev anyB (b : Ref sig .tc) : sProp 𝕄 := iprop(∃ f : Buf (Elt F) ((c : Thread nD τ).loc b), ((c : Thread nD τ).loc b) ↦{fullShare} f)

/-- The buffers of the other pallas_call. -/
def rest0 : sProp 𝕄 :=
  iprop(anyB c cc1_stg0_0 ∗ anyB c cc1_stg0_1 ∗ anyB c cc1_stg1_0 ∗ anyB c cc1_stg1_1 ∗ anyB c cc1_stg2_0 ∗ anyB c cc1_stg2_1
    ∗ anyB c cc1_stg3_0 ∗ anyB c cc1_stg3_1 ∗ anyB c cc1_stg4_0 ∗ anyB c cc1_stg4_1 ∗ anyB c cc1_stg5_0 ∗ anyB c cc1_stg5_1
    ∗ anyB c cc1_stg6_0 ∗ anyB c cc1_stg6_1 ∗ anyB c cc1_stg7_0 ∗ anyB c cc1_stg7_1 ∗ anyB c cc1_stg8_0 ∗ anyB c cc1_stg8_1
    ∗ anyB c cc1_scratch0 ∗ anyB c cc1_scratch1)

theorem scopedRest0_split : (Pipeline.scopedRest (Ix := Unit) (Name := ℕ) (U := UR sig nD τ) (Lvl := ℕ) (Val := Elt F) spec0 c : sProp 𝕄)
    = iprop(anyB c cc0_scratch0 ∗ anyB c cc0_scratch1 ∗ anyB c cc0_scratch2 ∗ rest0 c) := scopedRest0_eq c

/-- The invariant before point `n`. -/
def phi (n : ℕ) : sProp 𝕄 :=
  iprop(∃ (f6 : Vec F S16x512x512 .f32) (f7 f8 : Vec F S512x128 .f32), ⌜Inv (xN V c) (uN V c) n f6 f7 f8⌝
    ∗ owns (c : Thread nD τ) (Memref.whole cc0_scratch0) fullShare f6 ∗ owns (c : Thread nD τ) (Memref.whole cc0_scratch1) fullShare f7
    ∗ owns (c : Thread nD τ) (Memref.whole cc0_scratch2) fullShare f8 ∗ rest0 c)

/-- The proof data of the region entered at valuation `V`. -/
def dat : Dat τ (Elt F) Unit ℕ (UR sig nD τ) ℕ cfg0 c where
  A w := V c (Pipeline.arrRef spec0 w)
  after w t := match w with
    | ⟨0, _⟩ => xB V c t
    | ⟨1, _⟩ => uB V c t
    | ⟨2, _⟩ => qhAt V c t.val
    | ⟨3, _⟩ => shAt V c t.val
    | ⟨4, _⟩ => qlAt V c t.val
    | ⟨5, _⟩ => slAt V c t.val
  Φ t := phi V c t.val
  q _ := fullShare
  owed _ := 0

theorem after2 (t : Fin cfg0.N) : (dat V c).after 2 t = qhAt V c t.val := by dsimp only [dat]
theorem after3 (t : Fin cfg0.N) : (dat V c).after 3 t = shAt V c t.val := by dsimp only [dat]
theorem after4 (t : Fin cfg0.N) : (dat V c).after 4 t = qlAt V c t.val := by dsimp only [dat]
theorem after5 (t : Fin cfg0.N) : (dat V c).after 5 t = slAt V c t.val := by dsimp only [dat]

theorem before0 (t : Fin cfg0.N) (d) : (dat V c).before 0 t d = xB V c t :=
  (Dat.before_in_eq_fetched (dat V c) 0 rfl (fun _ => rfl) (fun _ _ _ => rfl) (fun _ => rfl) t d).trans rfl
theorem before1 (t : Fin cfg0.N) (d) : (dat V c).before 1 t d = uB V c t :=
  (Dat.before_in_eq_fetched (dat V c) 1 rfl (fun _ => rfl) (fun _ _ _ => rfl) (fun _ => rfl) t d).trans rfl

theorem lt400 (t : Fin grid0.N) : t.val < 400 := lt_of_lt_of_eq t.isLt N_0

theorem prevTile_pred {n : ℕ} (h : n % 16 ≠ 0) : prevTile (n - 1) = prevTile n := by unfold prevTile; omega

theorem before2 (t : Fin cfg0.N) (h : 16 ≤ t.val) (h2 : 2 ≤ t.val % 16) (d) : (dat V c).before 2 t d = qhAt V c t.val := by
  have step : ∀ n, 16 ≤ n → 2 ≤ n % 16 → qhAt V c (n - 1) = qhAt V c n := fun n hn hn2 => by
    unfold qhAt; rw [prevTile_pred (by omega), show min ((n - 1) % 16) 1 = min (n % 16) 1 by omega]
  rw [Dat.before_out_traj (dat V c) 2 rfl (fun _ _ => rfl) (fun t ht hi hf => ?_) t.val t rfl d, fresh2 _ (Nat.le_of_lt t.isLt)]
  · rw [if_neg (by simp only [decide_eq_true_eq]; omega)]
    rw [after2]; exact step _ h h2
  · rw [fresh2 _ (Nat.le_of_lt t.isLt)] at hf
    simp only [decide_eq_false_iff_not] at hf
    rw [after2, after2]; exact (step _ (by omega) (by omega)).symm

theorem before3 (t : Fin cfg0.N) (h : 16 ≤ t.val) (h2 : t.val % 16 ≠ 0) (d) : (dat V c).before 3 t d = shAt V c t.val := by
  have step : ∀ n, 16 ≤ n → n % 16 ≠ 0 → shAt V c (n - 1) = shAt V c n := fun n hn hn2 => by
    unfold shAt; rw [prevTile_pred hn2]
  rw [Dat.before_out_traj (dat V c) 3 rfl (fun _ _ => rfl) (fun t ht hi hf => ?_) t.val t rfl d, fresh3 _ (Nat.le_of_lt t.isLt)]
  · rw [if_neg (by simp only [decide_eq_true_eq]; omega)]
    rw [after3]; exact step _ h h2
  · rw [fresh3 _ (Nat.le_of_lt t.isLt)] at hf
    simp only [decide_eq_false_iff_not] at hf
    rw [after3, after3]; exact (step _ (by omega) (by omega)).symm

theorem before5 (t : Fin cfg0.N) (h : 16 ≤ t.val) (h2 : t.val % 16 ≠ 0) (d) : (dat V c).before 5 t d = slAt V c t.val := by
  have step : ∀ n, 16 ≤ n → n % 16 ≠ 0 → slAt V c (n - 1) = slAt V c n := fun n hn hn2 => by
    unfold slAt; rw [prevTile_pred hn2]
  rw [Dat.before_out_traj (dat V c) 5 rfl (fun _ _ => rfl) (fun t ht hi hf => ?_) t.val t rfl d, fresh5 _ (Nat.le_of_lt t.isLt)]
  · rw [if_neg (by simp only [decide_eq_true_eq]; omega)]
    rw [after5]; exact step _ h h2
  · rw [fresh5 _ (Nat.le_of_lt t.isLt)] at hf
    simp only [decide_eq_false_iff_not] at hf
    rw [after5, after5]; exact (step _ (by omega) (by omega)).symm

/-- What the body hands back for one window: at an idle point what it found, unless the block is written back there; else the
    contents the proof data states. -/
theorem leaves_of {cfg : Cfg sig Λ₀} (D : Dat τ (Elt F) Unit ℕ (UR sig nD τ) ℕ cfg c) (w : Fin cfg.W) (t : Fin cfg.N) (d X)
    (hi : cfg.idle w (cfg.grid.coords t) = true → X = D.before w t d)
    (hf : cfg.idle w (cfg.grid.coords t) = true → (cfg.win w).flush t = true → X = D.after w t)
    (hn : cfg.idle w (cfg.grid.coords t) = false → X = D.after w t) :
    (owns (c : Thread nD τ) ((cfg.win w).stage (cfg.slots t w)) fullShare X : sProp 𝕄) ⊢ D.leavesExact w t := by
  unfold Dat.leavesExact
  cases h : cfg.idle w (cfg.grid.coords t)
  · rw [hn h]
  · cases h' : (cfg.win w).flush t
    · rw [hi h]; iintro H; iexists d; iexact H
    · rw [hf h h']

/-! ## The point's step on what the windows hold -/

section
variable (t : Fin grid0.N) {f6 : Vec F S16x512x512 .f32} {f7 f8 : Vec F S512x128 .f32} (hI : Inv (xN V c) (uN V c) t.val f6 f7 f8)
include hI

theorem newSh_eq (X3 : Vec F S512x128 .f32) (h : 16 ≤ t.val) (h3 : t.val % 16 ≠ 0 → X3 = shAt V c t.val) :
    newSh (grid0.coords t) X3 f7 = shAt V c t.val := by
  have ht := lt400 t
  unfold newSh
  by_cases hj : t.val % 16 = 0
  · rw [if_pos ⟨(c1_iff t).mpr h, (c2_iff t).mpr hj⟩, hI.hi2 (t.val / 16 - 1) (by omega) (by omega) (by omega)]; unfold shAt scH prevTile; rfl
  · rw [if_neg (fun hh => hj ((c2_iff t).mp hh.2))]; exact h3 hj

theorem newSl_eq (X5 : Vec F S512x128 .f32) (h : 16 ≤ t.val) (h3 : t.val % 16 ≠ 0 → X5 = slAt V c t.val) :
    newSl (grid0.coords t) X5 f8 = slAt V c t.val := by
  have ht := lt400 t
  unfold newSl
  by_cases hj : t.val % 16 = 0
  · rw [if_pos ⟨(c1_iff t).mpr h, (c2_iff t).mpr hj⟩, hI.lo (t.val / 16 - 1) (by omega) (by omega) (by omega),
      show t.val - 16 * (t.val / 16 - 1) - 3 = 13 by omega]; unfold slAt scL prevTile; rfl
  · rw [if_neg (fun hh => hj ((c2_iff t).mp hh.2))]; exact h3 hj

theorem newQh_eq (X2 : Vec F S512x512 .i8) (X3 : Vec F S512x128 .f32) (h : 16 ≤ t.val) (hj : t.val % 16 < 2)
    (h3 : t.val % 16 ≠ 0 → X3 = shAt V c t.val) : newQh (grid0.coords t) X2 f6 X3 f7 = qhAt V c t.val := by
  unfold newQh
  rw [if_pos ⟨(c1_iff t).mpr h, (c3_iff t).mpr hj⟩, newSh_eq V c t hI X3 h h3, hI.read _ _ t h]
  unfold qhAt
  rw [show prevTile t.val + min (t.val % 16) 1 = t.val - 16 by unfold prevTile; omega]; rfl

theorem newQl_eq (X4 : Vec F S512x512 .i8) (X5 : Vec F S512x128 .f32) (h : 16 ≤ t.val) (hj : 2 ≤ t.val % 16)
    (h3 : t.val % 16 ≠ 0 → X5 = slAt V c t.val) : newQl (grid0.coords t) X4 f6 X5 f8 = qlAt V c t.val := by
  unfold newQl
  rw [if_pos ⟨(c1_iff t).mpr h, fun hh => by have := (c3_iff t).mp hh; omega⟩, newSl_eq V c t hI X5 h h3, hI.read _ _ t h]
  unfold qlAt
  rw [show prevTile t.val + t.val % 16 = t.val - 16 by unfold prevTile; omega]; rfl

end

/-! ## The body's obligation -/

theorem obligation_at (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d)))
    ⊢ wp frame (wpE (defs₀ (F := F)) Variants.none c none) Set.univ (bodyAt0 (F := F) t) fun _ =>
      iprop((dat V c).Φ t.succ ∗ (dat V c).owesAt () t.succ
        ∗ (dat V c).leavesExact 0 t ∗ (dat V c).leavesExact 1 t ∗ (dat V c).leavesExact 2 t
        ∗ (dat V c).leavesExact 3 t ∗ (dat V c).leavesExact 4 t ∗ (dat V c).leavesExact 5 t) := by
  have ht := lt400 t
  rw [show (dat V c).Φ t.castSucc = phi V c t.val from rfl, show (dat V c).Φ t.succ = phi V c (t.val + 1) from rfl,
    show (dat V c).owesAt () t.succ = (dat V c).owesAt () t.castSucc from rfl]
  unfold phi
  iintro ⟨⟨%f6, %f7, %f8, %hI, H6, H7, H8, Hr⟩, Ho, ⟨%d0, H0⟩, ⟨%d1, H1⟩, ⟨%d2, H2⟩, ⟨%d3, H3⟩, ⟨%d4, H4⟩, ⟨%d5, H5⟩⟩
  rw [before0, before1]
  unfold bodyAt0
  iapply (sound_rotate c Set.univ (grid0.coords t) (st0_0 t) _ (st0_1 t) _ (st0_2 t) _ (st0_3 t) _ (st0_4 t) _ (st0_5 t) _
    (Memref.whole cc0_scratch0) _ (Memref.whole cc0_scratch1) _ (Memref.whole cc0_scratch2) _ (xB V c t) (uB V c t)
    ((dat V c).before 2 t d2) ((dat V c).before 3 t d3) ((dat V c).before 4 t d4) ((dat V c).before 5 t d5) f6 f7 f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [H6 H7 H8 Hr]
  · iexists _, _, _
    isplitr
    swap
    · isplitl [H6]; · iexact H6
      isplitl [H7]; · iexact H7
      isplitl [H8]; · iexact H8
      iexact Hr
    · ipureintro
      have h := Inv_step (xN V c) (uN V c) t hI
      simp only [xN, uN, pt_val] at h
      exact h
  isplitl [Ho]; · iexact Ho
  isplitl [H0]; · iexact H0
  isplitl [H1]; · iexact H1
  have e3 : 16 ≤ t.val → t.val % 16 ≠ 0 → (dat V c).before 3 t d3 = shAt V c t.val := fun h hj => before3 V c t h hj d3
  have e5 : 16 ≤ t.val → t.val % 16 ≠ 0 → (dat V c).before 5 t d5 = slAt V c t.val := fun h hj => before5 V c t h hj d5
  have hi2 := idle2_eq t
  have hi3 := idle3_eq t
  have hi4 := idle4_eq t
  have hi5 := idle5_eq t
  have l2 := leaves_of c (dat V c) 2 t d2 (newQh (grid0.coords t) ((dat V c).before 2 t d2) f6 ((dat V c).before 3 t d3) f7)
    (fun hi => by
      have hi := decide_eq_true_eq.mp (hi2.symm.trans hi)
      unfold newQh; rw [if_neg]; intro hh; have := (c1_iff t).mp hh.1; have := (c3_iff t).mp hh.2; omega)
    (fun hi hf => by
      have hi := decide_eq_true_eq.mp (hi2.symm.trans hi)
      have hf := decide_eq_true_eq.mp ((flush2 t).symm.trans hf)
      rw [after2]; refine Eq.trans ?_ (before2 V c t (by omega) (by omega) d2)
      unfold newQh; rw [if_neg]; intro hh; have := (c1_iff t).mp hh.1; have := (c3_iff t).mp hh.2; omega)
    (fun hi => by
      have hi := decide_eq_false_iff_not.mp (hi2.symm.trans hi)
      rw [after2]; exact newQh_eq V c t hI _ _ (by omega) (by omega) (e3 (by omega)))
  have l3 := leaves_of c (dat V c) 3 t d3 (newSh (grid0.coords t) ((dat V c).before 3 t d3) f7)
    (fun hi => by
      have hi := decide_eq_true_eq.mp (hi3.symm.trans hi)
      unfold newSh; rw [if_neg]; intro hh; have := (c1_iff t).mp hh.1; have := (c2_iff t).mp hh.2; omega)
    (fun hi hf => by
      have hf := decide_eq_true_eq.mp ((flush3 t).symm.trans hf)
      rw [after3]; exact newSh_eq V c t hI _ (by omega) (e3 (by omega)))
    (fun hi => by
      have hi := decide_eq_false_iff_not.mp (hi3.symm.trans hi)
      rw [after3]; exact newSh_eq V c t hI _ (by omega) (e3 (by omega)))
  have l4 := leaves_of c (dat V c) 4 t d4 (newQl (grid0.coords t) ((dat V c).before 4 t d4) f6 ((dat V c).before 5 t d5) f8)
    (fun hi => by
      have hi := decide_eq_true_eq.mp (hi4.symm.trans hi)
      unfold newQl; rw [if_neg]; intro hh; have := (c1_iff t).mp hh.1; exact hh.2 ((c3_iff t).mpr (by omega)))
    (fun hi hf => by
      have hi := decide_eq_true_eq.mp (hi4.symm.trans hi)
      have hf := decide_eq_true_eq.mp ((flush4 t).symm.trans hf)
      omega)
    (fun hi => by
      have hi := decide_eq_false_iff_not.mp (hi4.symm.trans hi)
      rw [after4]; exact newQl_eq V c t hI _ _ (by omega) (by omega) (e5 (by omega)))
  have l5 := leaves_of c (dat V c) 5 t d5 (newSl (grid0.coords t) ((dat V c).before 5 t d5) f8)
    (fun hi => by
      have hi := decide_eq_true_eq.mp (hi5.symm.trans hi)
      unfold newSl; rw [if_neg]; intro hh; have := (c1_iff t).mp hh.1; have := (c2_iff t).mp hh.2; omega)
    (fun hi hf => by
      have hf := decide_eq_true_eq.mp ((flush5 t).symm.trans hf)
      rw [after5]; exact newSl_eq V c t hI _ (by omega) (e5 (by omega)))
    (fun hi => by
      have hi := decide_eq_false_iff_not.mp (hi5.symm.trans hi)
      rw [after5]; exact newSl_eq V c t hI _ (by omega) (e5 (by omega)))
  isplitl [H2]; · iapply l2; iexact H2
  isplitl [H3]; · iapply l3; iexact H3
  isplitl [H4]; · iapply l4; iexact H4
  iapply l5; iexact H5

theorem body_obligation : BodyObligation (dat V c) (defs₀ (F := F)) Variants.none () Set.univ := fun t => by
  rw [bigSep_W0, bigSep_W0]
  exact obligation_at V c t

end Cert.Kernel.Rot

end
-- ==== Proof.LinReg.lean ====
/-
  `mixed_linear` as a region of the program: the invariant of its two weight scratches, the proof data of its grid, and its
  body's obligation at every point.

  Point `16·n + m` prepares rows of weight tile `n` (the last row of points prepares tile 42 again) and multiplies row tile
  `m` of the codes with weight tile `n − 1`.
-/
module

public import proofs.«01_k».proof.Proof.LinBody
public import proofs.«01_k».proof.Proof.RotReg

@[expose] public section

set_option maxRecDepth 16384

noncomputable section

namespace Cert.Kernel.Lin

open Cert.Kernel Cert.Kernel.Gen
open Cert.Kernel.Rot (ld_unit_congr anyB leaves_of)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The points -/

/-- Point `n` of the grid. -/
def pn (n : ℕ) : Fin grid1.N := ⟨n % 704, by rw [N_1]; exact Nat.mod_lt _ (by omega)⟩

theorem lt704 (t : Fin grid1.N) : t.val < 704 := lt_of_lt_of_eq t.isLt N_1
theorem pn_val (t : Fin grid1.N) : pn t.val = t := Fin.ext (Nat.mod_eq_of_lt (lt704 t))

theorem c1_iff : ∀ t : Fin grid1.N, k1_cond1 (grid1.coords t) = 1#1 ↔ t.val < 16 := by decide +kernel
theorem tile_eq : ∀ t : Fin grid1.N, (grid1.coords t 0).val = t.val / 16 := by decide +kernel
theorem row_eq : ∀ t : Fin grid1.N, (grid1.coords t 1).val = t.val % 16 := by decide +kernel
theorem tile_pn {n : ℕ} (h : n < 704) : (grid1.coords (pn n) 0).val = n / 16 := by
  rw [tile_eq]; show n % 704 / 16 = _; rw [Nat.mod_eq_of_lt h]
theorem row_pn {n : ℕ} (h : n < 704) : (grid1.coords (pn n) 1).val = n % 16 := by
  rw [row_eq]; show n % 704 % 16 = _; rw [Nat.mod_eq_of_lt h]

/-! ## The scratches -/

theorem ld_wh_same (i : grid1.Coords) (f : Vec F S2x1024x512 .bf16) (w : Vec F S1x64x512 .bf16) :
    View.ld ((whRect i).overlay f w) (whRect i) = w := by
  funext y; exact Rect.overlay_emb (whRect i) f w y
theorem ld_wl_same (i : grid1.Coords) (f : Vec F S2x7168x512 .bf16) (w : Vec F S1x448x512 .bf16) :
    View.ld ((wlRect i).overlay f w) (wlRect i) = w := by
  funext y; exact Rect.overlay_emb (wlRect i) f w y

theorem ld_wh_other {i i' : grid1.Coords} (h : ¬ ((i 0).val % 2 = (i' 0).val % 2 ∧ (i 1).val = (i' 1).val)) (f : Vec F S2x1024x512 .bf16)
    (w : Vec F S1x64x512 .bf16) : View.ld ((whRect i).overlay f w) (whRect i') = View.ld f (whRect i') := by
  funext y
  refine Rect.overlay_of_not_mem (whRect i) f w fun hm => h ?_
  obtain ⟨x, hx⟩ : ∃ x, (whRect i).emb x = (whRect i').emb y := (whRect i).exists_idx_of_mem hm
  have e0 : (i 0).val % 2 + 1 * (x 0).val = (i' 0).val % 2 + 1 * (y 0).val := congrArg (fun z : S2x1024x512.Idx => (z 0).val) hx
  have e1 : 64 * (i 1).val + 1 * (x 1).val = 64 * (i' 1).val + 1 * (y 1).val := congrArg (fun z : S2x1024x512.Idx => (z 1).val) hx
  have hx0 : (x 0).val < 1 := (x 0).isLt
  have hy0 : (y 0).val < 1 := (y 0).isLt
  have hx1 : (x 1).val < 64 := (x 1).isLt
  have hy1 : (y 1).val < 64 := (y 1).isLt
  omega

theorem ld_wl_other {i i' : grid1.Coords} (h : ¬ ((i 0).val % 2 = (i' 0).val % 2 ∧ (i 1).val = (i' 1).val)) (f : Vec F S2x7168x512 .bf16)
    (w : Vec F S1x448x512 .bf16) : View.ld ((wlRect i).overlay f w) (wlRect i') = View.ld f (wlRect i') := by
  funext y
  refine Rect.overlay_of_not_mem (wlRect i) f w fun hm => h ?_
  obtain ⟨x, hx⟩ : ∃ x, (wlRect i).emb x = (wlRect i').emb y := (wlRect i).exists_idx_of_mem hm
  have e0 : (i 0).val % 2 + 1 * (x 0).val = (i' 0).val % 2 + 1 * (y 0).val := congrArg (fun z : S2x7168x512.Idx => (z 0).val) hx
  have e1 : 448 * (i 1).val + 1 * (x 1).val = 448 * (i' 1).val + 1 * (y 1).val := congrArg (fun z : S2x7168x512.Idx => (z 1).val) hx
  have hx0 : (x 0).val < 1 := (x 0).isLt
  have hy0 : (y 0).val < 1 := (y 0).isLt
  have hx1 : (x 1).val < 448 := (x 1).isLt
  have hy1 : (y 1).val < 448 := (y 1).isLt
  omega

variable (w : ℕ → Vec F S64x512 .i8) (p : ℕ → Vec F S448x256 .i8)

/-- Row `r` of a weight tile is row `r % 64` of what point `r / 64` of its row of points stored (`448` for the int4 part). -/
def whTile (k : ℕ) : Vec F S1x1024x512 .bf16 := fun y =>
  k1_pay3 (w (16 * k + (y 1).val / 64)) (fun a => match a with
    | 0 => (⟨0, Nat.one_pos⟩ : Fin 1) | 1 => (⟨(y 1).val % 64, Nat.mod_lt _ (by omega)⟩ : Fin 64) | 2 => (y 2 : Fin 512))
def wlTile (k : ℕ) : Vec F S1x7168x512 .bf16 := fun y =>
  unpacked (p (16 * k + (y 1).val / 448)) (fun a => match a with
    | 0 => (⟨0, Nat.one_pos⟩ : Fin 1) | 1 => (⟨(y 1).val % 448, Nat.mod_lt _ (by omega)⟩ : Fin 448) | 2 => (y 2 : Fin 512))

/-- What the scratches hold before point `n`: every piece stored in the last 32 points. -/
structure Inv (n : ℕ) (f9 : Vec F S2x1024x512 .bf16) (f10 : Vec F S2x7168x512 .bf16) : Prop where
  hi : ∀ q : ℕ, q < n → n ≤ q + 32 → View.ld f9 (whRect (grid1.coords (pn q))) = k1_pay3 (w q)
  lo : ∀ q : ℕ, q < n → n ≤ q + 32 → View.ld f10 (wlRect (grid1.coords (pn q))) = unpacked (p q)

theorem Inv_zero (f9 : Vec F S2x1024x512 .bf16) (f10 : Vec F S2x7168x512 .bf16) : Inv w p 0 f9 f10 :=
  ⟨fun _ h _ => absurd h (Nat.not_lt_zero _), fun _ h _ => absurd h (Nat.not_lt_zero _)⟩

theorem Inv_step (t : Fin grid1.N) {f9 : Vec F S2x1024x512 .bf16} {f10 : Vec F S2x7168x512 .bf16} (h : Inv w p t.val f9 f10) :
    Inv w p (t.val + 1) (newWh (grid1.coords t) (w t.val) f9) (newWl (grid1.coords t) (p t.val) f10) := by
  have ht := lt704 t
  refine ⟨fun q hn hn' => ?_, fun q hn hn' => ?_⟩
  · unfold newWh
    by_cases hq : q = t.val
    · subst hq; rw [pn_val, ld_wh_same]
    · rw [ld_wh_other (by rw [tile_eq, row_eq, tile_pn (by omega), row_pn (by omega)]; omega)]
      exact h.hi q (by omega) (by omega)
  · unfold newWl
    by_cases hq : q = t.val
    · subst hq; rw [pn_val, ld_wl_same]
    · rw [ld_wl_other (by rw [tile_eq, row_eq, tile_pn (by omega), row_pn (by omega)]; omega)]
      exact h.lo q (by omega) (by omega)

theorem Inv.readHi (t : Fin grid1.N) {f9 : Vec F S2x1024x512 .bf16} {f10 : Vec F S2x7168x512 .bf16} (h : Inv w p t.val f9 f10) (ht : 16 ≤ t.val) :
    View.ld f9 (whSlot (grid1.coords t)) = whTile w (t.val / 16 - 1) := by
  have htl := lt704 t
  funext y
  have hy1 : (y 1).val < 1024 := (y 1).isLt
  have hy0 : (y 0).val < 1 := (y 0).isLt
  unfold whTile
  rw [← h.hi (16 * (t.val / 16 - 1) + (y 1).val / 64) (by omega) (by omega)]
  show f9 _ = f9 _
  congr 1
  funext a; apply Fin.ext
  fin_cases a
  · show ((grid1.coords t 0).val + 1) % 2 + 1 * (y 0).val = (grid1.coords (pn _) 0).val % 2 + 1 * 0
    rw [tile_eq, tile_pn (by omega)]; omega
  · show 0 + 1 * (y 1).val = 64 * (grid1.coords (pn _) 1).val + 1 * ((y 1).val % 64)
    rw [row_pn (by omega)]; omega
  · show 0 + 1 * (y 2).val = 0 + 1 * (y 2).val
    rfl

theorem Inv.readLo (t : Fin grid1.N) {f9 : Vec F S2x1024x512 .bf16} {f10 : Vec F S2x7168x512 .bf16} (h : Inv w p t.val f9 f10) (ht : 16 ≤ t.val) :
    View.ld f10 (wlSlot (grid1.coords t)) = wlTile p (t.val / 16 - 1) := by
  have htl := lt704 t
  funext y
  have hy1 : (y 1).val < 7168 := (y 1).isLt
  have hy0 : (y 0).val < 1 := (y 0).isLt
  unfold wlTile
  rw [← h.lo (16 * (t.val / 16 - 1) + (y 1).val / 448) (by omega) (by omega)]
  show f10 _ = f10 _
  congr 1
  funext a; apply Fin.ext
  fin_cases a
  · show ((grid1.coords t 0).val + 1) % 2 + 1 * (y 0).val = (grid1.coords (pn _) 0).val % 2 + 1 * 0
    rw [tile_eq, tile_pn (by omega)]; omega
  · show 0 + 1 * (y 1).val = 448 * (grid1.coords (pn _) 1).val + 1 * ((y 1).val % 448)
    rw [row_pn (by omega)]; omega
  · show 0 + 1 * (y 2).val = 0 + 1 * (y 2).val
    rfl

/-! ## The proof data -/

theorem idle8_eq : ∀ t : Fin grid1.N, cfg1.idle 8 (grid1.coords t) = decide (t.val < 16) := by decide +kernel
theorem flushF8 : ∀ t : Fin grid1.N, win1_8.flushF t = decide (16 ≤ t.val) := by decide +kernel
theorem flush8 (t : Fin grid1.N) : (cfg1.win 8).flush t = decide (16 ≤ t.val) :=
  (Window.flush_eq_flushF (w := win1_8) t).trans (flushF8 t)

variable (V : (c : Dev nD) → (b : Ref sig .tc) → Buf (Elt F) ((c : Thread nD τ).loc b)) (c : Dev nD)

/-- The operands' blocks staged at point `t`. -/
def qhB (t : Fin grid1.N) : Vec F S768x1024 .i8 := ((cfg1.win 0).blk t).view.read (Elt F) (V c (Pipeline.arrRef spec1 0))
def shB (t : Fin grid1.N) : Vec F S768x128 .f32 := ((cfg1.win 1).blk t).view.read (Elt F) (V c (Pipeline.arrRef spec1 1))
def qlB (t : Fin grid1.N) : Vec F S768x7168 .i8 := ((cfg1.win 2).blk t).view.read (Elt F) (V c (Pipeline.arrRef spec1 2))
def slB (t : Fin grid1.N) : Vec F S768x128 .f32 := ((cfg1.win 3).blk t).view.read (Elt F) (V c (Pipeline.arrRef spec1 3))
def wB (t : Fin grid1.N) : Vec F S64x512 .i8 := ((cfg1.win 4).blk t).view.read (Elt F) (V c (Pipeline.arrRef spec1 4))
def whsB (t : Fin grid1.N) : Vec F S1x512 .f32 := ((cfg1.win 5).blk t).view.read (Elt F) (V c (Pipeline.arrRef spec1 5))
def pB (t : Fin grid1.N) : Vec F S448x256 .i8 := ((cfg1.win 6).blk t).view.read (Elt F) (V c (Pipeline.arrRef spec1 6))
def wlsB (t : Fin grid1.N) : Vec F S1x512 .f32 := ((cfg1.win 7).blk t).view.read (Elt F) (V c (Pipeline.arrRef spec1 7))
abbrev wN (n : ℕ) := wB V c (pn n)
abbrev pN (n : ℕ) := pB V c (pn n)

/-- What point `t` leaves in the output block. -/
def yAt (t : Fin grid1.N) : Vec F S768x512 .bf16 :=
  yBlk (qhB V c t) (shB V c t) (qlB V c t) (slB V c t) (whsB V c t) (wlsB V c t) (whTile (wN V c) (t.val / 16 - 1)) (wlTile (pN V c) (t.val / 16 - 1))

/-- The buffers of the other pallas_call. -/
def rest1 : sProp 𝕄 :=
  iprop(anyB c cc0_stg0_0 ∗ anyB c cc0_stg0_1 ∗ anyB c cc0_stg1_0 ∗ anyB c cc0_stg1_1 ∗ anyB c cc0_stg2_0 ∗ anyB c cc0_stg2_1
    ∗ anyB c cc0_stg3_0 ∗ anyB c cc0_stg3_1 ∗ anyB c cc0_stg4_0 ∗ anyB c cc0_stg4_1 ∗ anyB c cc0_stg5_0 ∗ anyB c cc0_stg5_1
    ∗ anyB c cc0_scratch0 ∗ anyB c cc0_scratch1 ∗ anyB c cc0_scratch2)

theorem sep_assoc_eq' (P Q R : sProp 𝕄) : iprop((P ∗ Q) ∗ R) = iprop(P ∗ Q ∗ R) := BI.equiv_iff.mp ⟨BI.sep_assoc, BI.sep_assoc'⟩

theorem scopedRest1_split : (Pipeline.scopedRest (Ix := Unit) (Name := ℕ) (U := UR sig nD τ) (Lvl := ℕ) (Val := Elt F) spec1 c : sProp 𝕄)
    = iprop(rest1 c ∗ anyB c cc1_scratch0 ∗ anyB c cc1_scratch1) := by
  rw [scopedRest1_eq]; unfold rest1; simp only [sep_assoc_eq']

/-- The invariant before point `n`. -/
def phi (n : ℕ) : sProp 𝕄 :=
  iprop(∃ (f9 : Vec F S2x1024x512 .bf16) (f10 : Vec F S2x7168x512 .bf16), ⌜Inv (wN V c) (pN V c) n f9 f10⌝
    ∗ owns (c : Thread nD τ) (Memref.whole cc1_scratch0) fullShare f9 ∗ owns (c : Thread nD τ) (Memref.whole cc1_scratch1) fullShare f10
    ∗ rest1 c)

/-- The proof data of the region entered at valuation `V`. -/
def dat : Dat τ (Elt F) Unit ℕ (UR sig nD τ) ℕ cfg1 c where
  A w := V c (Pipeline.arrRef spec1 w)
  after w t := match w with
    | ⟨0, _⟩ => qhB V c t
    | ⟨1, _⟩ => shB V c t
    | ⟨2, _⟩ => qlB V c t
    | ⟨3, _⟩ => slB V c t
    | ⟨4, _⟩ => wB V c t
    | ⟨5, _⟩ => whsB V c t
    | ⟨6, _⟩ => pB V c t
    | ⟨7, _⟩ => wlsB V c t
    | ⟨8, _⟩ => yAt V c t
  Φ t := phi V c t.val
  q _ := fullShare
  owed _ := 0

theorem after8 (t : Fin cfg1.N) : (dat V c).after 8 t = yAt V c t := by dsimp only [dat]

theorem before0 (t : Fin cfg1.N) (d) : (dat V c).before 0 t d = qhB V c t :=
  (Dat.before_in_eq_fetched (dat V c) 0 rfl (fun _ => rfl) (fun _ _ _ => rfl) (fun _ => rfl) t d).trans rfl
theorem before1 (t : Fin cfg1.N) (d) : (dat V c).before 1 t d = shB V c t :=
  (Dat.before_in_eq_fetched (dat V c) 1 rfl (fun _ => rfl) (fun _ _ _ => rfl) (fun _ => rfl) t d).trans rfl
theorem before2 (t : Fin cfg1.N) (d) : (dat V c).before 2 t d = qlB V c t :=
  (Dat.before_in_eq_fetched (dat V c) 2 rfl (fun _ => rfl) (fun _ _ _ => rfl) (fun _ => rfl) t d).trans rfl
theorem before3 (t : Fin cfg1.N) (d) : (dat V c).before 3 t d = slB V c t :=
  (Dat.before_in_eq_fetched (dat V c) 3 rfl (fun _ => rfl) (fun _ _ _ => rfl) (fun _ => rfl) t d).trans rfl
theorem before4 (t : Fin cfg1.N) (d) : (dat V c).before 4 t d = wB V c t :=
  (Dat.before_in_eq_fetched (dat V c) 4 rfl (fun _ => rfl) (fun _ _ _ => rfl) (fun _ => rfl) t d).trans rfl
theorem before5 (t : Fin cfg1.N) (d) : (dat V c).before 5 t d = whsB V c t :=
  (Dat.before_in_eq_fetched (dat V c) 5 rfl (fun _ => rfl) (fun _ _ _ => rfl) (fun _ => rfl) t d).trans rfl
theorem before6 (t : Fin cfg1.N) (d) : (dat V c).before 6 t d = pB V c t :=
  (Dat.before_in_eq_fetched (dat V c) 6 rfl (fun _ => rfl) (fun _ _ _ => rfl) (fun _ => rfl) t d).trans rfl
theorem before7 (t : Fin cfg1.N) (d) : (dat V c).before 7 t d = wlsB V c t :=
  (Dat.before_in_eq_fetched (dat V c) 7 rfl (fun _ => rfl) (fun _ _ _ => rfl) (fun _ => rfl) t d).trans rfl

/-! ## The body's obligation -/

theorem obligation_at (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d))
      ∗ (∃ d, owns (c : Thread nD τ) (st1_4 t) fullShare ((dat V c).before 4 t d))
      ∗ (∃ d, owns (c : Thread nD τ) (st1_5 t) fullShare ((dat V c).before 5 t d))
      ∗ (∃ d, owns (c : Thread nD τ) (st1_6 t) fullShare ((dat V c).before 6 t d))
      ∗ (∃ d, owns (c : Thread nD τ) (st1_7 t) fullShare ((dat V c).before 7 t d))
      ∗ (∃ d, owns (c : Thread nD τ) (st1_8 t) fullShare ((dat V c).before 8 t d)))
    ⊢ wp frame (wpE (defs₀ (F := F)) Variants.none c none) Set.univ (bodyAt1 (F := F) t) fun _ =>
      iprop((dat V c).Φ t.succ ∗ (dat V c).owesAt () t.succ
        ∗ (dat V c).leavesExact 0 t ∗ (dat V c).leavesExact 1 t ∗ (dat V c).leavesExact 2 t
        ∗ (dat V c).leavesExact 3 t ∗ (dat V c).leavesExact 4 t ∗ (dat V c).leavesExact 5 t
        ∗ (dat V c).leavesExact 6 t ∗ (dat V c).leavesExact 7 t ∗ (dat V c).leavesExact 8 t) := by
  rw [show (dat V c).Φ t.castSucc = phi V c t.val from rfl, show (dat V c).Φ t.succ = phi V c (t.val + 1) from rfl,
    show (dat V c).owesAt () t.succ = (dat V c).owesAt () t.castSucc from rfl]
  unfold phi
  iintro ⟨⟨%f9, %f10, %hI, H9, H10, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0, before1, before2, before3, before4, before5, before6, before7]
  unfold bodyAt1
  iapply (sound_linear c Set.univ (grid1.coords t) (st1_0 t) _ (st1_1 t) _ (st1_2 t) _ (st1_3 t) _ (st1_4 t) _ (st1_5 t) _
    (st1_6 t) _ (st1_7 t) _ (st1_8 t) _ (Memref.whole cc1_scratch0) _ (Memref.whole cc1_scratch1) _
    (qhB V c t) (shB V c t) (qlB V c t) (slB V c t) (wB V c t) (whsB V c t) (pB V c t) (wlsB V c t)
    ((dat V c).before 8 t d8) f9 f10 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [H9 H10 Hr]
  · iexists _, _
    isplitr
    swap
    · isplitl [H9]; · iexact H9
      isplitl [H10]; · iexact H10
      iexact Hr
    · ipureintro
      have h := Inv_step (wN V c) (pN V c) t hI
      simp only [wN, pN, pn_val] at h
      exact h
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have hi8 := idle8_eq t
  have l8 := leaves_of c (dat V c) 8 t d8 (newY (grid1.coords t) (qhB V c t) (shB V c t) (qlB V c t) (slB V c t) (whsB V c t) (wlsB V c t)
      ((dat V c).before 8 t d8) f9 f10)
    (fun hi => by
      have hi := decide_eq_true_eq.mp (hi8.symm.trans hi)
      rw [newY, if_pos ((c1_iff t).mpr hi)])
    (fun hi hf => by
      have hi := decide_eq_true_eq.mp (hi8.symm.trans hi)
      have hf := decide_eq_true_eq.mp ((flush8 t).symm.trans hf)
      omega)
    (fun hi => by
      have hi := decide_eq_false_iff_not.mp (hi8.symm.trans hi)
      rw [after8, newY, if_neg (fun h => hi ((c1_iff t).mp h)), hI.readHi _ _ t (by omega), hI.readLo _ _ t (by omega), yAt])
  iapply l8; iexact H8

theorem body_obligation : BodyObligation (dat V c) (defs₀ (F := F)) Variants.none () Set.univ := fun t => by
  rw [bigSep_W1, bigSep_W1]
  exact obligation_at V c t

end Cert.Kernel.Lin

end
-- ==== Proof.Run.lean ====
/-
  The whole program's run: its two regions as segments between the host stretches, and what every final state holds — the
  arguments as launched, every semaphore counter at zero, and each result at the last valuation.
-/
module

public import proofs.«01_k».proof.Proof.LinReg
public import proofs.«01_k».proof.Proof.Gen.Kernel.Regions
public import Idealize.ShloMosaic.Lib.Pipeline.RegionsLoop

@[expose] public section

set_option maxRecDepth 16384

noncomputable section

namespace Cert.Kernel.Run

open Cert.Kernel Cert.Kernel.Gen
open Cert.Kernel.Rot (anyB)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-! ## The invariants' ends -/

section Ends

variable (V : (c : Dev nD) → (b : Ref sig .tc) → Buf (Elt F) ((c : Thread nD τ).loc b)) (c : Dev nD)

theorem rot_in : (Pipeline.scopedRest (Ix := Unit) (Name := ℕ) (U := UR sig nD τ) (Lvl := ℕ) (Val := Elt F) spec0 c : sProp 𝕄) ⊢ Rot.phi V c 0 := by
  rw [Rot.scopedRest0_split]
  unfold Rot.phi anyB
  simp only [owns_whole]
  iintro ⟨⟨%f6, H6⟩, ⟨%f7, H7⟩, ⟨%f8, H8⟩, Hr⟩
  iexists f6; iexists f7; iexists f8
  isplitr
  · ipureintro; exact Rot.Inv_zero _ _ f6 f7 f8
  isplitl [H6]; · iexact H6
  isplitl [H7]; · iexact H7
  isplitl [H8]; · iexact H8
  iexact Hr

theorem rot_out (n : ℕ) : Rot.phi V c n ⊢ (Pipeline.scopedRest (Ix := Unit) (Name := ℕ) (U := UR sig nD τ) (Lvl := ℕ) (Val := Elt F) spec0 c : sProp 𝕄) := by
  rw [Rot.scopedRest0_split]
  unfold Rot.phi anyB
  simp only [owns_whole]
  iintro ⟨%f6, %f7, %f8, -, H6, H7, H8, Hr⟩
  isplitl [H6]; · iexists f6; iexact H6
  isplitl [H7]; · iexists f7; iexact H7
  isplitl [H8]; · iexists f8; iexact H8
  iexact Hr

theorem lin_in : (Pipeline.scopedRest (Ix := Unit) (Name := ℕ) (U := UR sig nD τ) (Lvl := ℕ) (Val := Elt F) spec1 c : sProp 𝕄) ⊢ Lin.phi V c 0 := by
  rw [Lin.scopedRest1_split]
  unfold Lin.phi anyB
  simp only [owns_whole]
  iintro ⟨Hr, ⟨%f9, H9⟩, ⟨%f10, H10⟩⟩
  iexists f9; iexists f10
  isplitr
  · ipureintro; exact Lin.Inv_zero _ _ f9 f10
  isplitl [H9]; · iexact H9
  isplitl [H10]; · iexact H10
  iexact Hr

theorem lin_out (n : ℕ) : Lin.phi V c n ⊢ (Pipeline.scopedRest (Ix := Unit) (Name := ℕ) (U := UR sig nD τ) (Lvl := ℕ) (Val := Elt F) spec1 c : sProp 𝕄) := by
  rw [Lin.scopedRest1_split]
  unfold Lin.phi anyB
  simp only [owns_whole]
  iintro ⟨%f9, %f10, -, H9, H10, Hr⟩
  isplitl [Hr]; · iexact Hr
  isplitl [H9]; · iexists f9; iexact H9
  iexists f10; iexact H10

end Ends

/-! ## The regions' contents -/

variable (m : (ℓ : Loc nD τ sig) → Buf (Elt F) ℓ)

/-- Every buffer as the rotation finds it. -/
def VA (c : Dev nD) (b : Ref sig .tc) : Buf (Elt F) ((c : Thread nD τ).loc b) := V1 m c b

/-- Every buffer as the rotation leaves it. -/
def outA (r : Ref sig .tc) : (c : Dev nD) → Buf (Elt F) ((c : Thread nD τ).loc r) :=
  Function.update (Function.update (Function.update (Function.update
    (fun (r : Ref sig .tc) (c : Dev nD) => VA m c r : (r : Ref sig .tc) → (c : Dev nD) → Buf (Elt F) ((c : Thread nD τ).loc r))
    main_v1_0 fun c => (Rot.dat (VA m) c).arrAt 2 cfg0.N)
    main_v1_1 fun c => (Rot.dat (VA m) c).arrAt 3 cfg0.N)
    main_v1_2 fun c => (Rot.dat (VA m) c).arrAt 4 cfg0.N)
    main_v1_3 (fun c => (Rot.dat (VA m) c).arrAt 5 cfg0.N) r

/-- Every buffer as the linear layer finds it. -/
def VB (c : Dev nD) (b : Ref sig .tc) : Buf (Elt F) ((c : Thread nD τ).loc b) := V3 m (fun _ => outA m) c b

/-- Every buffer as the linear layer leaves it. -/
def outB (r : Ref sig .tc) : (c : Dev nD) → Buf (Elt F) ((c : Thread nD τ).loc r) :=
  Function.update
    (fun (r : Ref sig .tc) (c : Dev nD) => VB m c r : (r : Ref sig .tc) → (c : Dev nD) → Buf (Elt F) ((c : Thread nD τ).loc r))
    main_v4 (fun c => (Lin.dat (VB m) c).arrAt 8 cfg1.N) r

/-- What the two regions leave. -/
def outs : Outs (F := F) := fun J r => if J = 2 then outA m r else outB m r

theorem outs_two (r : Ref sig .tc) (c : Dev nD) : outs m 2 r c = outA m r c := by unfold outs; rw [if_pos rfl]
theorem outs_four (r : Ref sig .tc) (c : Dev nD) : outs m 4 r c = outB m r c := by unfold outs; rw [if_neg (by decide)]

theorem outA_0 (c : Dev nD) : outA m main_v1_0 c = (Rot.dat (VA m) c).arrAt 2 cfg0.N := by
  unfold outA
  rw [Function.update_of_ne (by decide), Function.update_of_ne (by decide), Function.update_of_ne (by decide), Function.update_self]
theorem outA_1 (c : Dev nD) : outA m main_v1_1 c = (Rot.dat (VA m) c).arrAt 3 cfg0.N := by
  unfold outA
  rw [Function.update_of_ne (by decide), Function.update_of_ne (by decide), Function.update_self]
theorem outA_2 (c : Dev nD) : outA m main_v1_2 c = (Rot.dat (VA m) c).arrAt 4 cfg0.N := by
  unfold outA
  rw [Function.update_of_ne (by decide), Function.update_self]
theorem outA_3 (c : Dev nD) : outA m main_v1_3 c = (Rot.dat (VA m) c).arrAt 5 cfg0.N := by
  unfold outA
  rw [Function.update_self]
theorem outB_4 (c : Dev nD) : outB m main_v4 c = (Lin.dat (VB m) c).arrAt 8 cfg1.N := by
  unfold outB
  rw [Function.update_self]

theorem V2_outs (c : Dev nD) : V2 m (outs m) c = V2 m (fun _ => outA m) c := by
  unfold V2; simp only [outs_two]
theorem V3_outs (c : Dev nD) : V3 m (outs m) c = V3 m (fun _ => outA m) c := by
  unfold V3; rw [V2_outs]
theorem VB_eq (c : Dev nD) (b : Ref sig .tc) : VB m c b = V3 m (outs m) c b := by
  unfold VB; rw [V3_outs]

/-- The regions' proof data. -/
def pdats (p : Fin 2) (c : Dev nD) : Dat τ (Elt F) Unit ℕ (UR sig nD τ) ℕ (cfgs p) c :=
  match p with
  | ⟨0, _⟩ => Rot.dat (VA m) c
  | ⟨1, _⟩ => Lin.dat (VB m) c

/-- No core owes another anything: no level is assigned. -/
abbrev L : GSem nD τ sig → Finset Unit := fun _ => ∅
abbrev lv : GSem nD τ sig → Unit → ℕ := fun _ _ => 0

/-- What rides beside the buffers. -/
abbrev rest (c : Dev nD) : sProp 𝕄 := iprop(∃ W, owes (c : Thread nD τ) (0 : CellTallies nD τ sig Unit) W)

section Seg0

variable (Vp : (c : Dev nD) → (b : Ref sig .tc) → Buf (Elt F) ((c : Thread nD τ).loc b))

set_option maxHeartbeats 2000000 in
set_option backward.isDefEq.respectTransparency.types false in
/-- The rotation, entered with every unscoped buffer at `VA` and left with its four results written. -/
def reg0 (h2 : ∀ c, Vp c main_v1_0 = (Rot.dat (VA m) c).arrAt 2 cfg0.N) (h3 : ∀ c, Vp c main_v1_1 = (Rot.dat (VA m) c).arrAt 3 cfg0.N)
    (h4 : ∀ c, Vp c main_v1_2 = (Rot.dat (VA m) c).arrAt 4 cfg0.N) (h5 : ∀ c, Vp c main_v1_3 = (Rot.dat (VA m) c).arrAt 5 cfg0.N)
    (hne : ∀ c (b : Ref sig .tc), b ∉ ([main_v1_0, main_v1_1, main_v1_2, main_v1_3] : List (Ref sig .tc)) → Vp c b = VA m c b) :
    RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (Rot.body_obligation (VA m) c).loose
  hwaits := Pipeline.hwaits_of_owed_zero _ _ _ _ L lv 0 fun _ _ => rfl
  pre c := iprop(unscopedBufs c (VA m c) ∗ rest c)
  post c := iprop(unscopedBufs c (Vp c) ∗ rest c)
  X _ := BI.emp
  Y _ := BI.emp
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Rot.phi (VA m) c 0 from rfl]
    have h := rot_in (VA m) c
    iintro ⟨-, -, Hr⟩
    iapply h; iexact Hr
  hout c := by
    rw [Pipeline.ownSems0_none, show (pdats m 0 c).Φ (Fin.last _) = Rot.phi (VA m) c cfg0.N from rfl]
    have h := rot_out (VA m) c cfg0.N
    iintro Hr
    isplitr; · iempintro
    isplitr; · iempintro
    iapply h; iexact Hr
  hexit c := by
    have hjoin := Pipeline.unscopedBufs_of_arrays (p := 0) (pcfgs (F := F)) adm (Ix := Unit) (Name := ℕ) (U := UR sig nD τ) (Lvl := ℕ)
      launch0.win launch0.arr_whole c
      (pdats m) ((pdats m 0 c).share_full fun _ => rfl) (VA m c) (Vp c) ((pdats m 0 c).arrAt · cfg0.N)
      (fun w => by
        fin_cases w
        · exact ((pdats m 0 c).arrAt_in 0 rfl _).trans (hne c main_v0 (by decide)).symm
        · exact ((pdats m 0 c).arrAt_in 1 rfl _).trans (hne c main_arg1 (by decide)).symm
        · exact (h2 c).symm
        · exact (h3 c).symm
        · exact (h4 c).symm
        · exact (h5 c).symm)
      (fun b hb => hne c b fun h => hb (by
        simp only [List.mem_cons, List.mem_nil_iff, _root_.or_false] at h
        rcases h with rfl | rfl | rfl | rfl
        · exact Finset.mem_image.mpr ⟨2, Finset.mem_univ _, rfl⟩
        · exact Finset.mem_image.mpr ⟨3, Finset.mem_univ _, rfl⟩
        · exact Finset.mem_image.mpr ⟨4, Finset.mem_univ _, rfl⟩
        · exact Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option maxHeartbeats 2000000 in
set_option backward.isDefEq.respectTransparency.types false in
/-- The linear layer, entered with every unscoped buffer at `VB` and left with its result written. -/
def reg1 (h8 : ∀ c, Vp c main_v4 = (Lin.dat (VB m) c).arrAt 8 cfg1.N)
    (hne : ∀ c (b : Ref sig .tc), b ∉ ([main_v4] : List (Ref sig .tc)) → Vp c b = VB m c b) :
    RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (Lin.body_obligation (VB m) c).loose
  hwaits := Pipeline.hwaits_of_owed_zero _ _ _ _ L lv 1 fun _ _ => rfl
  pre c := iprop(unscopedBufs c (VB m c) ∗ rest c)
  post c := iprop(unscopedBufs c (Vp c) ∗ rest c)
  X _ := BI.emp
  Y _ := BI.emp
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Lin.phi (VB m) c 0 from rfl]
    have h := lin_in (VB m) c
    iintro ⟨-, -, Hr⟩
    iapply h; iexact Hr
  hout c := by
    rw [Pipeline.ownSems0_none, show (pdats m 1 c).Φ (Fin.last _) = Lin.phi (VB m) c cfg1.N from rfl]
    have h := lin_out (VB m) c cfg1.N
    iintro Hr
    isplitr; · iempintro
    isplitr; · iempintro
    iapply h; iexact Hr
  hexit c := by
    have hjoin := Pipeline.unscopedBufs_of_arrays (p := 1) (pcfgs (F := F)) adm (Ix := Unit) (Name := ℕ) (U := UR sig nD τ) (Lvl := ℕ)
      launch1.win launch1.arr_whole c
      (pdats m) ((pdats m 1 c).share_full fun _ => rfl) (VB m c) (Vp c) ((pdats m 1 c).arrAt · cfg1.N)
      (fun w => by
        fin_cases w
        · exact ((pdats m 1 c).arrAt_in 0 rfl _).trans (hne c main_v1_0 (by decide)).symm
        · exact ((pdats m 1 c).arrAt_in 1 rfl _).trans (hne c main_v1_1 (by decide)).symm
        · exact ((pdats m 1 c).arrAt_in 2 rfl _).trans (hne c main_v1_2 (by decide)).symm
        · exact ((pdats m 1 c).arrAt_in 3 rfl _).trans (hne c main_v1_3 (by decide)).symm
        · exact ((pdats m 1 c).arrAt_in 4 rfl _).trans (hne c main_arg2 (by decide)).symm
        · exact ((pdats m 1 c).arrAt_in 5 rfl _).trans (hne c main_v2 (by decide)).symm
        · exact ((pdats m 1 c).arrAt_in 6 rfl _).trans (hne c main_arg4 (by decide)).symm
        · exact ((pdats m 1 c).arrAt_in 7 rfl _).trans (hne c main_v3 (by decide)).symm
        · exact (h8 c).symm)
      (fun b hb => hne c b fun h => hb (by
        simp only [List.mem_cons, List.mem_nil_iff, _root_.or_false] at h
        subst h
        exact Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Seg0

/-! ## The run -/

theorem V2_out (c : Dev nD) : V2 m (outs m) c main_v1_0 = outA m main_v1_0 c ∧ V2 m (outs m) c main_v1_1 = outA m main_v1_1 c
    ∧ V2 m (outs m) c main_v1_2 = outA m main_v1_2 c ∧ V2 m (outs m) c main_v1_3 = outA m main_v1_3 c := by
  have n01 : (Proc.devRef .tc main_v1_0 : DevRef τ sig) ≠ Proc.devRef .tc main_v1_1 := StableHlo.devRef_ne_of_ne (by decide)
  have n02 : (Proc.devRef .tc main_v1_0 : DevRef τ sig) ≠ Proc.devRef .tc main_v1_2 := StableHlo.devRef_ne_of_ne (by decide)
  have n03 : (Proc.devRef .tc main_v1_0 : DevRef τ sig) ≠ Proc.devRef .tc main_v1_3 := StableHlo.devRef_ne_of_ne (by decide)
  have n12 : (Proc.devRef .tc main_v1_1 : DevRef τ sig) ≠ Proc.devRef .tc main_v1_2 := StableHlo.devRef_ne_of_ne (by decide)
  have n13 : (Proc.devRef .tc main_v1_1 : DevRef τ sig) ≠ Proc.devRef .tc main_v1_3 := StableHlo.devRef_ne_of_ne (by decide)
  have n23 : (Proc.devRef .tc main_v1_2 : DevRef τ sig) ≠ Proc.devRef .tc main_v1_3 := StableHlo.devRef_ne_of_ne (by decide)
  unfold V2
  simp only [outs_two]
  refine ⟨?_, ?_, ?_, ?_⟩
  · rw [Function.update_of_ne n03, Function.update_of_ne n02, Function.update_of_ne n01, Function.update_self]
  · rw [Function.update_of_ne n13, Function.update_of_ne n12, Function.update_self]
  · rw [Function.update_of_ne n23, Function.update_self]
  · rw [Function.update_self]

theorem V4_out (c : Dev nD) : V4 m (outs m) c main_v4 = outB m main_v4 c := by
  unfold V4; rw [outs_four, Function.update_self]

/-- The rotation's record at the program's valuations. -/
def R0 : RegionSeg (pcfgs (F := F)) adm (pdats m) () defs₀ Variants.none L lv 0 :=
  reg0 m (fun c b => V2 m (outs m) c b)
    (fun c => ((V2_out m c).1).trans (outA_0 m c)) (fun c => ((V2_out m c).2.1).trans (outA_1 m c))
    (fun c => ((V2_out m c).2.2.1).trans (outA_2 m c)) (fun c => ((V2_out m c).2.2.2).trans (outA_3 m c))
    (fun c b h => V2_of m (outs m) c b h)

/-- The linear layer's record at the program's valuations. -/
def R1 : RegionSeg (pcfgs (F := F)) adm (pdats m) () defs₀ Variants.none L lv 1 :=
  reg1 m (fun c b => V4 m (outs m) c b) (fun c => (V4_out m c).trans (outB_4 m c))
    (fun c b h => (V4_of m (outs m) c b h).trans (VB_eq m c b).symm)

/-- Item `b` of the last state, read off the last valuation. -/
abbrev lastAt (s : MemSt nD τ sig (Elt F)) (c : Dev nD) (b : Ref sig .tc) : Prop :=
  s.mem ((c.tc : Thread nD τ).loc b) = V5 m (outs m) c b

set_option maxHeartbeats 2000000 in
set_option backward.isDefEq.respectTransparency.types false in
/-- Every weakly fair execution of the program from memory `m` with zero counters terminates; every final state holds each
    argument as launched, each result at the last valuation, and every semaphore counter at zero. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ lastAt m r.2 c main_v5 ∧ lastAt m r.2 c main_v6 ∧ lastAt m r.2 c main_v9 ∧ lastAt m r.2 c main_v10 ∧ lastAt m r.2 c main_v13)
      ∧ r.2.sem = fun _ => 0) := by
  refine Pipeline.θ_run_regions_kit_dev_sems (pcfgs (F := F)) adm (pdats m) () cellOf_inj
    (emb₁ : Emb (UR sig nD τ) 𝕄) defs₀ Variants.none L lv m ρ main
    (segs m (outs m) Variants.none L lv (fun _ c => rest c) () (pdats m) (R0 m) (R1 m))
    (fun c Q => by
      rewrite [main_chain c, Pipeline.Seg.run_eq_chain,
        show (segs m (outs m) Variants.none L lv (fun _ c => rest c) () (pdats m) (R0 m) (R1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) 0 (fun _ _ => rfl)
    (fun _ => iprop(emp)) (initOf (Pipeline.cells cfgs cellOf_inj) (Pipeline.launchToks cfgs cellOf_inj))
    (by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V5 m (outs m) c))
    (hch := fun c => ⟨.rfl, ?_, ?_, ?_, ?_, .rfl⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
      ∧ lastAt m s c main_v5 ∧ lastAt m s c main_v6 ∧ lastAt m s c main_v9 ∧ lastAt m s c main_v10 ∧ lastAt m s c main_v13)
    (hfin := fun c s' => ?_) (hQ := fun _ h hz => ⟨h, funext fun g => hz g (.inr (regions_no_unscoped g.2))⟩)
  · rw [show (Pipeline.Seg.region (R0 m)).pre c = iprop(unscopedBufs c (VA m c) ∗ rest c) from rfl,
      show unscopedBufs c (VA m c) = (StableHlo.held (c : Thread nD τ) (Pipeline.ucRefs τ sig) (V1 m c) : sProp 𝕄) from Pipeline.unscopedBufs_held c (V1 m c)]
    exact .rfl
  · rw [show (Pipeline.Seg.region (R0 m)).post c = iprop(unscopedBufs c (fun b => V2 m (outs m) c b) ∗ rest c) from rfl,
      show unscopedBufs c (fun b => V2 m (outs m) c b) = (StableHlo.held (c : Thread nD τ) (Pipeline.ucRefs τ sig) (V2 m (outs m) c) : sProp 𝕄) from Pipeline.unscopedBufs_held c (V2 m (outs m) c)]
    exact .rfl
  · rw [show (Pipeline.Seg.region (R1 m)).pre c = iprop(unscopedBufs c (VB m c) ∗ rest c) from rfl,
      show unscopedBufs c (VB m c) = (StableHlo.held (c : Thread nD τ) (Pipeline.ucRefs τ sig) (V3 m (outs m) c) : sProp 𝕄) from
        (congrArg (unscopedBufs c) (funext fun b => VB_eq m c b)).trans (Pipeline.unscopedBufs_held c (V3 m (outs m) c))]
    exact .rfl
  · rw [show (Pipeline.Seg.region (R1 m)).post c = iprop(unscopedBufs c (fun b => V4 m (outs m) c b) ∗ rest c) from rfl,
      show unscopedBufs c (fun b => V4 m (outs m) c b) = (StableHlo.held (c : Thread nD τ) (Pipeline.ucRefs τ sig) (V4 m (outs m) c) : sProp 𝕄) from Pipeline.unscopedBufs_held c (V4 m (outs m) c)]
    exact .rfl
  · refine Pipeline.initEach L lv fun c => ?_
    rw [show unscopedBufs c (fun b => m ((c : Thread nD τ).loc b)) = (StableHlo.held (c : Thread nD τ) (Pipeline.ucRefs τ sig) (V0 m c) : sProp 𝕄) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c),
        (h (Proc.devRef .tc main_arg2) (Finset.mem_filter.mpr ⟨StableHlo.devRef_mem_tcRefs main_arg2, by decide⟩)).trans (V5_main_arg2 m (outs m) c),
        (h (Proc.devRef .tc main_arg3) (Finset.mem_filter.mpr ⟨StableHlo.devRef_mem_tcRefs main_arg3, by decide⟩)).trans (V5_main_arg3 m (outs m) c),
        (h (Proc.devRef .tc main_arg4) (Finset.mem_filter.mpr ⟨StableHlo.devRef_mem_tcRefs main_arg4, by decide⟩)).trans (V5_main_arg4 m (outs m) c),
        (h (Proc.devRef .tc main_arg5) (Finset.mem_filter.mpr ⟨StableHlo.devRef_mem_tcRefs main_arg5, by decide⟩)).trans (V5_main_arg5 m (outs m) c)⟩,
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩),
        h (Proc.devRef .tc main_v9) (Finset.mem_filter.mpr ⟨StableHlo.devRef_mem_tcRefs main_v9, by decide⟩),
        h (Proc.devRef .tc main_v10) (Finset.mem_filter.mpr ⟨StableHlo.devRef_mem_tcRefs main_v10, by decide⟩),
        h (Proc.devRef .tc main_v13) (Finset.mem_filter.mpr ⟨StableHlo.devRef_mem_tcRefs main_v13, by decide⟩)⟩
    · iexact HSI

end Cert.Kernel.Run

end
-- ==== Proof.Same.lean ====
/-
  The kernel printed for reading at the ideal values is the kernel: same signature, same main function, same bodies.
-/
module

public import proofs.«01_k».proof.Proof.Gen.Kernel
public import proofs.«01_k».proof.Proof.Gen.KernelIdeal

@[expose] public section

set_option maxRecDepth 16384

noncomputable section

namespace Cert.Same

open Idealize.ShloMosaic

variable {F : FTy → Type} [FloatOps F]

set_option maxHeartbeats 0 in
theorem defs₀_eq : Cert.KernelIdeal.defs₀ (F := F) = Cert.Kernel.defs₀ (F := F) := by
  funext p l a
  cases p with
  | tc =>
    match l, a with
    | 0, (t, s) => rfl
    | 1, (t, s) => rfl
    | ⟨_ + 2, h⟩, _ => exact absurd h (Nat.not_lt.2 (Nat.le_add_left _ _))
  | scScalar _ => rfl
  | scVector _ _ => rfl

theorem pcfgs_eq : Cert.KernelIdeal.pcfgs (F := F) = Cert.Kernel.pcfgs (F := F) := rfl

set_option maxHeartbeats 4000000 in
theorem defs_eq : Cert.KernelIdeal.defs (F := F) = Cert.Kernel.defs (F := F) := by
  unfold Cert.KernelIdeal.defs Cert.Kernel.defs
  rw [defs₀_eq]
  congr 1

theorem main_eq : Cert.KernelIdeal.main (F := F) = Cert.Kernel.main (F := F) := rfl

/-- What every run of the kernel ends in, every run of its second printing ends in. -/
theorem transfer (m : MemSt Cert.Kernel.nD Cert.Kernel.τ Cert.Kernel.sig (Elt F))
    (Q : PUnit × MemSt Cert.Kernel.nD Cert.Kernel.τ Cert.Kernel.sig (Elt F) → Prop)
    (h : θ_run Cert.Kernel.defs (onTc (τ := Cert.Kernel.τ) (Cert.Kernel.main (F := F))) m Q) :
    θ_run Cert.KernelIdeal.defs (onTc (τ := Cert.KernelIdeal.τ) (Cert.KernelIdeal.main (F := F))) m Q := by
  rw [defs_eq, main_eq]
  exact h

end Cert.Same

end
-- ==== Proof.Spec.lean ====
/-
  What the layer computes, element by element, over the extended reals: the rotated activations, the two scales of a row,
  the integer codes, and the two-tier product with the weights.
-/
module

public import Idealize.ShloMosaic.Lib.Pointwise

@[expose] public section

noncomputable section

namespace Cert.Spec

open Idealize.ShloMosaic

/-- The largest of finitely many values and the constant a maximum reduction starts from. -/
def mx {n : ℕ} (f : Fin n → EReal) : EReal := Finset.univ.fold max (Ideal.ofBits .f32 0xFF800000#32) f

theorem mx_le {n : ℕ} (f : Fin n → EReal) (b : EReal) : mx f ≤ b ↔ Ideal.ofBits .f32 0xFF800000#32 ≤ b ∧ ∀ k, f k ≤ b := by
  unfold mx
  rw [Finset.fold_max_le]
  exact and_congr_right fun _ => ⟨fun h k => h k (Finset.mem_univ k), fun h k _ => h k⟩

/-- Two maxima over families with the same values are equal. -/
theorem mx_eq {n n' : ℕ} (f : Fin n → EReal) (g : Fin n' → EReal) (h : ∀ b, (∀ k, f k ≤ b) ↔ ∀ k, g k ≤ b) : mx f = mx g :=
  eq_of_forall_ge_iff fun b => by rw [mx_le, mx_le, h]

/-- The absolute value. -/
def ab (x : EReal) : EReal := max x (-x)

/-- The scale for codes up to `q` (a constant's bits) of a row whose largest magnitude is `m`. -/
def scale (q : BitVec 32) (m : EReal) : EReal :=
  Scalar.select (Ideal.cmp .oeq m (Ideal.ofBits .f32 0x00000000#32)) (Ideal.ofBits .f32 0x3F800000#32) (Ideal.div m (Ideal.ofBits .f32 q))

/-- The code of `x` at scale `s`: the quotient rounded to even and clipped to `lo … hi`. -/
def code (lo hi : BitVec 32) (x s : EReal) : BitVec 8 :=
  Ideal.fptosi 8 (min (Ideal.ofBits .f32 hi) (max (Ideal.ofBits .f32 lo) (Ideal.liftRound Ideal.roundHalfEven (Ideal.div x s))))

variable (x : FVec Ideal ⟨2, ![12288, 8192]⟩ .bf16) (u : FVec Ideal ⟨2, ![8192, 8192]⟩ .bf16)

/-- The rotated activations. -/
def R (r c : ℕ) : EReal := ∑ k : Fin 8192, x (ix2 (Fin.ofNat 12288 r) k) * u (ix2 k (Fin.ofNat 8192 c))

/-- The scales of row `r`. -/
def sH (r : ℕ) : EReal := scale 0x42FE0000#32 (mx fun k : Fin 1024 => ab (R x u r k.val))
def sL (r : ℕ) : EReal := scale 0x40E00000#32 (mx fun k : Fin 7168 => ab (R x u r (1024 + k.val)))

/-- The codes of row `r`. -/
def qH (r c : ℕ) : BitVec 8 := code 0xC2FE0000#32 0x42FE0000#32 (R x u r c) (sH x u r)
def qL (r c : ℕ) : BitVec 8 := code 0xC0E00000#32 0x40E00000#32 (R x u r (1024 + c)) (sL x u r)

/-- An int8 word as an extended real. -/
def val (b : BitVec 8) : EReal := FloatOps.sitofp (F := Ideal) .bf16 b

/-- The signed 4-bit field `h` (0 low, 1 high) of a byte. -/
def nib (p : BitVec 8) (h : ℕ) : BitVec 8 := (p.extractLsb' (4 * (h % 2)) 4).signExtend 8

variable (w : IVec ⟨2, ![1024, 22016]⟩ 8) (ws : FVec Ideal ⟨2, ![1, 22016]⟩ .f32) (p : IVec ⟨2, ![7168, 11008]⟩ 8) (ps : FVec Ideal ⟨2, ![1, 22016]⟩ .f32)

/-- The two products. -/
def accH (r c : ℕ) : EReal := ∑ k : Fin 1024, val (qH x u r k.val) * val (w (ix2 k (Fin.ofNat 22016 c)))
def accL (r c : ℕ) : EReal := ∑ k : Fin 7168, val (qL x u r k.val) * val (nib (p (ix2 k (Fin.ofNat 11008 (c / 2)))) (c % 2))

/-- The result. -/
def Y (r c : ℕ) : EReal :=
  sH x u r * ws (ix2 0 (Fin.ofNat 22016 c)) * accH x u w r c + sL x u r * ps (ix2 0 (Fin.ofNat 22016 c)) * accL x u p r c

end Cert.Spec

end
-- ==== Proof.RotPay.lean ====
/-
  The values `rotate_quantise` stores, element by element, over the extended reals.
-/
module

public import proofs.«01_k».proof.Proof.RotDat
public import proofs.«01_k».proof.Proof.Spec
public import Idealize.ShloMosaic.Lib.Pointwise

@[expose] public section

set_option maxRecDepth 16384

noncomputable section

namespace Cert.Kernel.Rot

open Cert.Kernel Cert.Kernel.Gen
open Idealize.ShloMosaic
open Cert.Spec (mx mx_le mx_eq ab scale code)

theorem pay4_at (x : FVec Ideal S512x8192 .bf16) (u : FVec Ideal S8192x512 .bf16) (i j : Fin 512) :
    k0_pay4 (F := Ideal) x u (ix2 i j) = ∑ k : Fin 8192, x (ix2 i k) * u (ix2 k j) := by
  pointwise [k0_pay4]

theorem pay5_at (x : FVec Ideal S512x8192 .bf16) (u : FVec Ideal S8192x512 .bf16) (i j : Fin 512) :
    k0_pay3 (F := Ideal) (k0_pay5 (F := Ideal) x u) (ix2 i j) = k0_pay4 (F := Ideal) x u (ix2 i j) := by
  pointwise [k0_pay3, k0_pay5]

theorem pay6_at (x : FVec Ideal S512x8192 .bf16) (u : FVec Ideal S8192x512 .bf16) (i : Fin 512) (l : Fin 128) :
    k0_pay6 (F := Ideal) x u (ix2 i l) = max (max (max (ab (k0_pay4 (F := Ideal) x u (ix2 i ⟨l.val, by omega⟩)))
      (ab (k0_pay4 (F := Ideal) x u (ix2 i ⟨128 + l.val, by omega⟩)))) (ab (k0_pay4 (F := Ideal) x u (ix2 i ⟨256 + l.val, by omega⟩))))
      (ab (k0_pay4 (F := Ideal) x u (ix2 i ⟨384 + l.val, by omega⟩))) := by
  pointwise [k0_pay6]
  rfl

theorem pay7_at (t : Fin grid0.N) (h : t.val % 16 = 1) (x : FVec Ideal S512x8192 .bf16) (u : FVec Ideal S8192x512 .bf16) (am : FVec Ideal S512x128 .f32)
    (j : S512x128.Idx) : k0_pay7 (F := Ideal) (grid0.coords t) x u am j = max (am j) (k0_pay6 (F := Ideal) x u j) := by
  have H : ∀ t : Fin grid0.N, t.val % 16 = 1 →
    Scalar.ori (Scalar.cmpi .eq (BitVec.ofNat 32 (grid0.coords t 1).val) 0#32) (Scalar.cmpi .eq (BitVec.ofNat 32 (grid0.coords t 1).val) 2#32) = 0#1 := by
    decide +kernel
  show shapeCast S512x128 (Scalar.select (Scalar.ori _ _) (k0_pay6 x u) (maximumf am (k0_pay6 x u))) _ j = _
  rw [shapeCast_self, H t h]; rfl

theorem pay8_at (t : Fin grid0.N) (h : 3 ≤ t.val % 16) (x : FVec Ideal S512x8192 .bf16) (u : FVec Ideal S8192x512 .bf16) (am : FVec Ideal S512x128 .f32)
    (j : S512x128.Idx) : k0_pay8 (F := Ideal) (grid0.coords t) x u am j = max (am j) (k0_pay6 (F := Ideal) x u j) := by
  have H : ∀ t : Fin grid0.N, 3 ≤ t.val % 16 →
    Scalar.ori (Scalar.cmpi .eq (BitVec.ofNat 32 (grid0.coords t 1).val) 0#32) (Scalar.cmpi .eq (BitVec.ofNat 32 (grid0.coords t 1).val) 2#32) = 0#1 := by
    decide +kernel
  show shapeCast S512x128 (Scalar.select (Scalar.ori _ _) (k0_pay6 x u) (maximumf am (k0_pay6 x u))) _ j = _
  rw [shapeCast_self, H t h]; rfl

theorem pay1_at (v : FVec Ideal S512x128 .f32) (i : Fin 512) (l : Fin 128) :
    k0_pay1 (F := Ideal) v (ix2 i l) = scale 0x42FE0000#32 (mx fun k : Fin 128 => v (ix2 i k)) := by
  pointwise [k0_pay1, scale, mx]

theorem pay2_at (v : FVec Ideal S512x128 .f32) (i : Fin 512) (l : Fin 128) :
    k0_pay2 (F := Ideal) v (ix2 i l) = scale 0x40E00000#32 (mx fun k : Fin 128 => v (ix2 i k)) := by
  pointwise [k0_pay2, scale, mx]

/-- Column `b` of the store at column `o` is column `o + b` of the chunk. -/
theorem emb_col (o : ℕ) (inb : ∀ a, (![0, o] : Fin 2 → ℕ) a + S512x128.size a ≤ S512x512.size a) (a : Fin 512) (b : Fin 128) (h : o + b.val < 512) :
    (Rect.unit (s := S512x512) ![0, o] S512x128.size inb).emb (ix2 a b) = ix2 a ⟨o + b.val, h⟩ := by
  refine Shape.idx_ext₂ (n := S512x512.size) ?_ ?_
  · show 0 + 1 * a.val = a.val; omega
  · show o + 1 * b.val = o + b.val; omega

/-- The codes of a chunk: its elements over the scale in their column's lane. -/
theorem hiCodes_at (v : FVec Ideal S512x512 .f32) (s : FVec Ideal S512x128 .f32) (f : Fin 512 → EReal) (hs : ∀ i l, s (ix2 i l) = f i) (i j : Fin 512) :
    hiCodes (F := Ideal) v s (ix2 i j) = code 0xC2FE0000#32 0x42FE0000#32 (v (ix2 i j)) (f i) := by
  unfold hiCodes
  let G : S512x512.Idx → BitVec 8 := fun y => code 0xC2FE0000#32 0x42FE0000#32 (v y) (f (y 0))
  refine View.canon_apply_of_pieces (Val := Elt Ideal) (e := .i8) G _ (fun p hp y => ?_) (ix2 i j) (cover4 (F := Ideal) _ _ _ _ _)
  simp only [List.mem_cons, List.not_mem_nil, or_false] at hp
  rcases hp with rfl | rfl | rfl | rfl
  · obtain ⟨a, b, rfl⟩ : ∃ (a : Fin 512) (b : Fin 128), y = ix2 a b := ⟨y 0, y 1, eq_ix2 y⟩
    refine Eq.trans ?_ (congrArg G (emb_col 384 inb_S512x512_S512x128_0_384 a b (by omega)).symm)
    show k0_pay13 (F := Ideal) v s (ix2 a b) = code 0xC2FE0000#32 0x42FE0000#32 (v (ix2 a ⟨384 + b.val, by omega⟩)) (f a)
    pointwise [k0_pay13, k0_pay9, code, hs]
    rfl
  · obtain ⟨a, b, rfl⟩ : ∃ (a : Fin 512) (b : Fin 128), y = ix2 a b := ⟨y 0, y 1, eq_ix2 y⟩
    refine Eq.trans ?_ (congrArg G (emb_col 256 inb_S512x512_S512x128_0_256 a b (by omega)).symm)
    show k0_pay12 (F := Ideal) v s (ix2 a b) = code 0xC2FE0000#32 0x42FE0000#32 (v (ix2 a ⟨256 + b.val, by omega⟩)) (f a)
    pointwise [k0_pay12, k0_pay9, code, hs]
    rfl
  · obtain ⟨a, b, rfl⟩ : ∃ (a : Fin 512) (b : Fin 128), y = ix2 a b := ⟨y 0, y 1, eq_ix2 y⟩
    refine Eq.trans ?_ (congrArg G (emb_col 128 inb_S512x512_S512x128_0_128 a b (by omega)).symm)
    show k0_pay11 (F := Ideal) v s (ix2 a b) = code 0xC2FE0000#32 0x42FE0000#32 (v (ix2 a ⟨128 + b.val, by omega⟩)) (f a)
    pointwise [k0_pay11, k0_pay9, code, hs]
    rfl
  · obtain ⟨a, b, rfl⟩ : ∃ (a : Fin 512) (b : Fin 128), y = ix2 a b := ⟨y 0, y 1, eq_ix2 y⟩
    refine Eq.trans ?_ (congrArg G (emb_col 0 inb_S512x512_S512x128_0_0 a b (by omega)).symm)
    show k0_pay10 (F := Ideal) v s (ix2 a b) = code 0xC2FE0000#32 0x42FE0000#32 (v (ix2 a ⟨0 + b.val, by omega⟩)) (f a)
    pointwise [k0_pay10, k0_pay9, code, hs]
    rfl

theorem loCodes_at (v : FVec Ideal S512x512 .f32) (s : FVec Ideal S512x128 .f32) (f : Fin 512 → EReal) (hs : ∀ i l, s (ix2 i l) = f i) (i j : Fin 512) :
    loCodes (F := Ideal) v s (ix2 i j) = code 0xC0E00000#32 0x40E00000#32 (v (ix2 i j)) (f i) := by
  unfold loCodes
  let G : S512x512.Idx → BitVec 8 := fun y => code 0xC0E00000#32 0x40E00000#32 (v y) (f (y 0))
  refine View.canon_apply_of_pieces (Val := Elt Ideal) (e := .i8) G _ (fun p hp y => ?_) (ix2 i j) (cover4 (F := Ideal) _ _ _ _ _)
  simp only [List.mem_cons, List.not_mem_nil, or_false] at hp
  rcases hp with rfl | rfl | rfl | rfl
  · obtain ⟨a, b, rfl⟩ : ∃ (a : Fin 512) (b : Fin 128), y = ix2 a b := ⟨y 0, y 1, eq_ix2 y⟩
    refine Eq.trans ?_ (congrArg G (emb_col 384 inb_S512x512_S512x128_0_384 a b (by omega)).symm)
    show k0_pay18 (F := Ideal) v s (ix2 a b) = code 0xC0E00000#32 0x40E00000#32 (v (ix2 a ⟨384 + b.val, by omega⟩)) (f a)
    pointwise [k0_pay18, k0_pay14, code, hs]
    rfl
  · obtain ⟨a, b, rfl⟩ : ∃ (a : Fin 512) (b : Fin 128), y = ix2 a b := ⟨y 0, y 1, eq_ix2 y⟩
    refine Eq.trans ?_ (congrArg G (emb_col 256 inb_S512x512_S512x128_0_256 a b (by omega)).symm)
    show k0_pay17 (F := Ideal) v s (ix2 a b) = code 0xC0E00000#32 0x40E00000#32 (v (ix2 a ⟨256 + b.val, by omega⟩)) (f a)
    pointwise [k0_pay17, k0_pay14, code, hs]
    rfl
  · obtain ⟨a, b, rfl⟩ : ∃ (a : Fin 512) (b : Fin 128), y = ix2 a b := ⟨y 0, y 1, eq_ix2 y⟩
    refine Eq.trans ?_ (congrArg G (emb_col 128 inb_S512x512_S512x128_0_128 a b (by omega)).symm)
    show k0_pay16 (F := Ideal) v s (ix2 a b) = code 0xC0E00000#32 0x40E00000#32 (v (ix2 a ⟨128 + b.val, by omega⟩)) (f a)
    pointwise [k0_pay16, k0_pay14, code, hs]
    rfl
  · obtain ⟨a, b, rfl⟩ : ∃ (a : Fin 512) (b : Fin 128), y = ix2 a b := ⟨y 0, y 1, eq_ix2 y⟩
    refine Eq.trans ?_ (congrArg G (emb_col 0 inb_S512x512_S512x128_0_0 a b (by omega)).symm)
    show k0_pay15 (F := Ideal) v s (ix2 a b) = code 0xC0E00000#32 0x40E00000#32 (v (ix2 a ⟨0 + b.val, by omega⟩)) (f a)
    pointwise [k0_pay15, k0_pay14, code, hs]
    rfl

end Cert.Kernel.Rot

end
-- ==== Proof.RotVal.lean ====
/-
  What `rotate_quantise` leaves in its four arrays over the extended reals: the codes and the scales of the rotated activations.
-/
module

public import proofs.«01_k».proof.Proof.RotReg
public import proofs.«01_k».proof.Proof.RotPay
public import Idealize.ShloMosaic.Lib.Pipeline.ValueKit

@[expose] public section

set_option maxRecDepth 16384

noncomputable section

namespace Cert.Kernel.Rot

open Cert.Kernel Cert.Kernel.Gen
open Cert.Spec

open Idealize.ShloMosaic
open Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

/-- The activations and the rotation as the region finds them. -/
def X : FVec Ideal ⟨2, ![12288, 8192]⟩ .bf16 := V c main_v0
def U : FVec Ideal ⟨2, ![8192, 8192]⟩ .bf16 := V c main_arg1

/-! ## The blocks' places -/

theorem idx0 : ∀ t : Fin grid0.N, win0_0.index t = ![min (t.val / 16) 23, 0] := by decide +kernel
theorem idx1 : ∀ t : Fin grid0.N, win0_1.index t = ![0, if t.val / 16 = 24 then 15 else t.val % 16] := by decide +kernel
theorem idx2 : ∀ t : Fin grid0.N, win0_2.index t = ![t.val / 16 - 1, if t.val / 16 = 0 then 0 else min (t.val % 16) 1] := by decide +kernel
theorem idx3 : ∀ t : Fin grid0.N, win0_3.index t = ![t.val / 16 - 1, 0] := by decide +kernel
theorem idx4 : ∀ t : Fin grid0.N, win0_4.index t = ![t.val / 16 - 1, if t.val / 16 = 0 then 0 else t.val % 16 - 2] := by decide +kernel
theorem idx5 : ∀ t : Fin grid0.N, win0_5.index t = ![t.val / 16 - 1, 0] := by decide +kernel

theorem xN_at (n : ℕ) (h : n < 384) (i : Fin 512) (k : Fin 8192) :
    xN V c n (ix2 i k) = X V c (ix2 (Fin.ofNat 12288 (512 * (n / 16) + i.val)) k) := by
  have hp : (pt n).val = n := Nat.mod_eq_of_lt (by omega)
  have e := idx0 (pt n)
  rw [hp] at e
  unfold xN xB X
  show V c main_v0 _ = V c main_v0 _
  congr 1
  refine Shape.idx_ext₂ (n := S12288x8192.size) ?_ ?_
  · refine (Window.rect_emb_val win0_0 (pt n) (ix2 i k) 0).trans ?_
    rw [e]; show min (n / 16) 23 * 512 + i.val = (512 * (n / 16) + i.val) % 12288; omega
  · refine (Window.rect_emb_val win0_0 (pt n) (ix2 i k) 1).trans ?_
    rw [e]; show 0 * 8192 + k.val = k.val; omega

theorem uN_at (n : ℕ) (h : n < 384) (k : Fin 8192) (j : Fin 512) :
    uN V c n (ix2 k j) = U V c (ix2 k (Fin.ofNat 8192 (512 * (n % 16) + j.val))) := by
  have hp : (pt n).val = n := Nat.mod_eq_of_lt (by omega)
  have e := idx1 (pt n)
  rw [hp, if_neg (by omega)] at e
  unfold uN uB U
  show V c main_arg1 _ = V c main_arg1 _
  congr 1
  refine Shape.idx_ext₂ (n := S8192x8192.size) ?_ ?_
  · refine (Window.rect_emb_val win0_1 (pt n) (ix2 k j) 0).trans ?_
    rw [e]; show 0 * 8192 + k.val = k.val; omega
  · refine (Window.rect_emb_val win0_1 (pt n) (ix2 k j) 1).trans ?_
    rw [e]; show n % 16 * 512 + j.val = (512 * (n % 16) + j.val) % 8192; omega

/-- The product at a point is the rotation's chunk. -/
theorem prod_at (n : ℕ) (h : n < 384) (i j : Fin 512) :
    k0_pay4 (F := Ideal) (xN V c n) (uN V c n) (ix2 i j) = R (X V c) (U V c) (512 * (n / 16) + i.val) (512 * (n % 16) + j.val) := by
  rw [pay4_at]
  unfold R
  exact Finset.sum_congr rfl fun k _ => by rw [xN_at V c n h, uN_at V c n h]

/-! ## The scales -/

/-- Every magnitude of a chunk's row is at most `b`. -/
def RowLe (n : ℕ) (i : Fin 512) (b : EReal) : Prop :=
  ∀ j : Fin 512, ab (R (X V c) (U V c) (512 * (n / 16) + i.val) (512 * (n % 16) + j.val)) ≤ b

theorem lanes_le (n : ℕ) (h : n < 384) (i : Fin 512) (b : EReal) :
    (∀ l : Fin 128, k0_pay6 (F := Ideal) (xN V c n) (uN V c n) (ix2 i l) ≤ b) ↔ RowLe V c n i b := by
  unfold RowLe
  constructor
  · intro H j
    have hl := H ⟨j.val % 128, Nat.mod_lt _ (by omega)⟩
    rw [pay6_at, max_le_iff, max_le_iff, max_le_iff, prod_at V c n h, prod_at V c n h, prod_at V c n h, prod_at V c n h] at hl
    obtain ⟨⟨⟨h0, h1⟩, h2⟩, h3⟩ := hl
    dsimp only at h0 h1 h2 h3
    have hj := j.isLt
    have hc : j.val = j.val % 128 ∨ j.val = 128 + j.val % 128 ∨ j.val = 256 + j.val % 128 ∨ j.val = 384 + j.val % 128 := by omega
    rcases hc with e | e | e | e
    · rw [← e] at h0; exact h0
    · rw [← e] at h1; exact h1
    · rw [← e] at h2; exact h2
    · rw [← e] at h3; exact h3
  · intro H l
    rw [pay6_at, max_le_iff, max_le_iff, max_le_iff, prod_at V c n h, prod_at V c n h, prod_at V c n h, prod_at V c n h]
    exact ⟨⟨⟨H _, H _⟩, H _⟩, H _⟩

theorem hi_le (q : ℕ) (h : q < 384) (h16 : q % 16 = 0) (i : Fin 512) (b : EReal) :
    (∀ l : Fin 128, hiMax (F := Ideal) (xN V c) (uN V c) q (ix2 i l) ≤ b) ↔ RowLe V c q i b ∧ RowLe V c (q + 1) i b := by
  rw [← lanes_le V c q h, ← lanes_le V c (q + 1) (by omega), ← forall_and]
  refine forall_congr' fun l => ?_
  unfold hiMax laneN
  rw [pay7_at _ (by show (q + 1) % 400 % 16 = 1; omega), max_le_iff]

theorem lo_le (q : ℕ) (h : q < 384) (h16 : q % 16 = 0) (i : Fin 512) (b : EReal) : ∀ k : ℕ, k ≤ 13 →
    ((∀ l : Fin 128, loMax (F := Ideal) (xN V c) (uN V c) q k (ix2 i l) ≤ b) ↔ ∀ e ≤ k, RowLe V c (q + 2 + e) i b)
  | 0, _ => by
    refine (lanes_le V c (q + 2) (by omega) i b).trans ⟨fun H e he => ?_, fun H => H 0 le_rfl⟩
    obtain rfl : e = 0 := by omega
    exact H
  | k + 1, hk => by
    have e1 : (∀ l : Fin 128, loMax (F := Ideal) (xN V c) (uN V c) q (k + 1) (ix2 i l) ≤ b)
        ↔ (∀ l : Fin 128, loMax (F := Ideal) (xN V c) (uN V c) q k (ix2 i l) ≤ b)
          ∧ ∀ l : Fin 128, k0_pay6 (F := Ideal) (xN V c (q + k + 3)) (uN V c (q + k + 3)) (ix2 i l) ≤ b := by
      rw [← forall_and]
      refine forall_congr' fun l => ?_
      rw [loMax, pay8_at _ (by show 3 ≤ (q + k + 3) % 400 % 16; omega), max_le_iff]
    rw [e1, lo_le q h h16 i b k (by omega), lanes_le V c _ (by omega)]
    constructor
    · rintro ⟨H, H'⟩ e he
      by_cases hek : e ≤ k
      · exact H e hek
      · obtain rfl : e = k + 1 := by omega
        rw [show q + 2 + (k + 1) = q + k + 3 by omega]; exact H'
    · intro H
      refine ⟨fun e he => H e (by omega), ?_⟩
      have := H (k + 1) le_rfl
      rwa [show q + 2 + (k + 1) = q + k + 3 by omega] at this

theorem scH_at (q : ℕ) (h : q < 384) (h16 : q % 16 = 0) (i : Fin 512) (l : Fin 128) :
    scH (F := Ideal) (xN V c) (uN V c) q (ix2 i l) = sH (X V c) (U V c) (512 * (q / 16) + i.val) := by
  unfold scH sH
  rw [pay1_at]
  refine congrArg _ (mx_eq _ _ fun b => ?_)
  rw [hi_le V c q h h16]
  unfold RowLe
  constructor
  · rintro ⟨H, H'⟩ k
    have hk := k.isLt
    by_cases hc : k.val < 512
    · have := H ⟨k.val, hc⟩
      rwa [show 512 * (q % 16) + k.val = k.val by omega] at this
    · have := H' ⟨k.val - 512, by omega⟩
      rwa [show (q + 1) / 16 = q / 16 by omega, show 512 * ((q + 1) % 16) + (k.val - 512) = k.val by omega] at this
  · intro H
    refine ⟨fun j => ?_, fun j => ?_⟩
    · have := H ⟨j.val, by omega⟩
      rwa [show 512 * (q % 16) + j.val = j.val by omega]
    · have := H ⟨512 + j.val, by omega⟩
      rwa [show (q + 1) / 16 = q / 16 by omega, show 512 * ((q + 1) % 16) + j.val = 512 + j.val by omega]

theorem scL_at (q : ℕ) (h : q < 384) (h16 : q % 16 = 0) (i : Fin 512) (l : Fin 128) :
    scL (F := Ideal) (xN V c) (uN V c) q (ix2 i l) = sL (X V c) (U V c) (512 * (q / 16) + i.val) := by
  unfold scL sL
  rw [pay2_at]
  refine congrArg _ (mx_eq _ _ fun b => ?_)
  rw [lo_le V c q h h16 i b 13 le_rfl]
  unfold RowLe
  constructor
  · intro H k
    have hk := k.isLt
    have := H (k.val / 512) (by omega) ⟨k.val % 512, Nat.mod_lt _ (by omega)⟩
    rwa [show (q + 2 + k.val / 512) / 16 = q / 16 by omega,
      show 512 * ((q + 2 + k.val / 512) % 16) + k.val % 512 = 1024 + k.val by omega] at this
  · intro H e he j
    have := H ⟨512 * e + j.val, by omega⟩
    rwa [show (q + 2 + e) / 16 = q / 16 by omega,
      show 512 * ((q + 2 + e) % 16) + j.val = 1024 + (512 * e + j.val) by omega]

/-! ## The blocks -/

theorem shAt_at (n : ℕ) (h : 16 ≤ n) (h' : n < 400) (i : Fin 512) (l : Fin 128) :
    shAt (F := Ideal) V c n (ix2 i l) = sH (X V c) (U V c) (512 * (n / 16 - 1) + i.val) := by
  unfold shAt prevTile
  rw [scH_at V c _ (by omega) (by omega), show 16 * (n / 16 - 1) / 16 = n / 16 - 1 by omega]
theorem slAt_at (n : ℕ) (h : 16 ≤ n) (h' : n < 400) (i : Fin 512) (l : Fin 128) :
    slAt (F := Ideal) V c n (ix2 i l) = sL (X V c) (U V c) (512 * (n / 16 - 1) + i.val) := by
  unfold slAt prevTile
  rw [scL_at V c _ (by omega) (by omega), show 16 * (n / 16 - 1) / 16 = n / 16 - 1 by omega]

theorem qhAt_at (n : ℕ) (h : 16 ≤ n) (h' : n < 400) (i j : Fin 512) :
    qhAt (F := Ideal) V c n (ix2 i j) = qH (X V c) (U V c) (512 * (n / 16 - 1) + i.val) (512 * min (n % 16) 1 + j.val) := by
  unfold qhAt
  refine (hiCodes_at _ _ (fun i => sH (X V c) (U V c) (512 * (n / 16 - 1) + i.val)) (fun i l => shAt_at V c n h h' i l) i j).trans ?_
  unfold prodN qH
  rw [pay5_at, prod_at V c _ (by unfold prevTile; omega), show (prevTile n + min (n % 16) 1) / 16 = n / 16 - 1 by unfold prevTile; omega,
    show (prevTile n + min (n % 16) 1) % 16 = min (n % 16) 1 by unfold prevTile; omega]

theorem qlAt_at (n : ℕ) (h : 16 ≤ n) (h' : n < 400) (h2 : 2 ≤ n % 16) (i j : Fin 512) :
    qlAt (F := Ideal) V c n (ix2 i j) = qL (X V c) (U V c) (512 * (n / 16 - 1) + i.val) (512 * (n % 16 - 2) + j.val) := by
  unfold qlAt
  refine (loCodes_at _ _ (fun i => sL (X V c) (U V c) (512 * (n / 16 - 1) + i.val)) (fun i l => slAt_at V c n h h' i l) i j).trans ?_
  unfold prodN qL
  rw [pay5_at, prod_at V c _ (by unfold prevTile; omega), show (prevTile n + n % 16) / 16 = n / 16 - 1 by unfold prevTile; omega,
    show 512 * ((prevTile n + n % 16) % 16) + j.val = 1024 + (512 * (n % 16 - 2) + j.val) by unfold prevTile; omega]

/-! ## The arrays -/

theorem arr2 : (dat V c).arrAt 2 cfg0.N = fun i : S12288x1024.Idx => qH (X V c) (U V c) (i 0).val (i 1).val := by
  refine (dat V c).arrAt_eq_of_covers 2 _ (by decide +kernel) fun t hf y => ?_
  have hf := decide_eq_true_eq.mp ((flush2 t).symm.trans hf)
  have ht := lt400 t
  blk_simp
  rw [after2]
  obtain ⟨i, j, rfl⟩ : ∃ (i : Fin 512) (j : Fin 512), y = ix2 i j := ⟨y 0, y 1, eq_ix2 y⟩
  have e := idx2 t
  rw [if_neg (by omega)] at e
  refine (qhAt_at V c t.val hf.1 ht i j).trans (congrArg₂ (qH (X V c) (U V c)) ?_ ?_)
  · rw [e]; show _ = (t.val / 16 - 1) * 512 + i.val; omega
  · rw [e]; show _ = min (t.val % 16) 1 * 512 + j.val; omega

theorem arr3 : (dat V c).arrAt 3 cfg0.N = fun i : S12288x128.Idx => sH (X V c) (U V c) (i 0).val := by
  refine (dat V c).arrAt_eq_of_covers 3 _ (by decide +kernel) fun t hf y => ?_
  have hf := decide_eq_true_eq.mp ((flush3 t).symm.trans hf)
  have ht := lt400 t
  blk_simp
  rw [after3]
  obtain ⟨i, j, rfl⟩ : ∃ (i : Fin 512) (j : Fin 128), y = ix2 i j := ⟨y 0, y 1, eq_ix2 y⟩
  have e := idx3 t
  refine (shAt_at V c t.val hf.1 ht i j).trans (congrArg (sH (X V c) (U V c)) ?_)
  rw [e]; show _ = (t.val / 16 - 1) * 512 + i.val; omega

theorem arr4 : (dat V c).arrAt 4 cfg0.N = fun i : S12288x7168.Idx => qL (X V c) (U V c) (i 0).val (i 1).val := by
  refine (dat V c).arrAt_eq_of_covers 4 _ (by decide +kernel) fun t hf y => ?_
  have hf := decide_eq_true_eq.mp ((flush4 t).symm.trans hf)
  have ht := lt400 t
  blk_simp
  rw [after4]
  obtain ⟨i, j, rfl⟩ : ∃ (i : Fin 512) (j : Fin 512), y = ix2 i j := ⟨y 0, y 1, eq_ix2 y⟩
  have e := idx4 t
  rw [if_neg (by omega)] at e
  refine (qlAt_at V c t.val hf.1 ht hf.2 i j).trans (congrArg₂ (qL (X V c) (U V c)) ?_ ?_)
  · rw [e]; show _ = (t.val / 16 - 1) * 512 + i.val; omega
  · rw [e]; show _ = (t.val % 16 - 2) * 512 + j.val; omega

theorem arr5 : (dat V c).arrAt 5 cfg0.N = fun i : S12288x128.Idx => sL (X V c) (U V c) (i 0).val := by
  refine (dat V c).arrAt_eq_of_covers 5 _ (by decide +kernel) fun t hf y => ?_
  have hf := decide_eq_true_eq.mp ((flush5 t).symm.trans hf)
  have ht := lt400 t
  blk_simp
  rw [after5]
  obtain ⟨i, j, rfl⟩ : ∃ (i : Fin 512) (j : Fin 128), y = ix2 i j := ⟨y 0, y 1, eq_ix2 y⟩
  have e := idx5 t
  refine (slAt_at V c t.val hf.1 ht i j).trans (congrArg (sL (X V c) (U V c)) ?_)
  rw [e]; show _ = (t.val / 16 - 1) * 512 + i.val; omega

end Cert.Kernel.Rot

end
-- ==== Proof.Nib.lean ====
/-
  The words of packed four-bit fields: four bytes lie in one 32-bit word, and the fields of all four are taken out and
  sign-extended at once.
-/
module

public import proofs.«01_k».proof.Proof.Spec
public import Idealize.ShloMosaic.Lib.BitcastFour

@[expose] public section

set_option maxRecDepth 16384

namespace Cert.Nib

open Idealize.ShloMosaic

/-- Byte `q` of a word. -/
def byte (x : BitVec 32) (q : ℕ) : BitVec 8 := x.extractLsb' (8 * q) 8

/-- What the kernel does to a word whose fields were shifted to the low halves of their bytes. -/
def ext (v : BitVec 32) : BitVec 32 := (((v &&& 252645135#32) ^^^ 134744072#32 ||| 2155905152#32) - 134744072#32) ^^^ 2155905152#32

/-- The word of four bytes, lowest first. -/
def word (b0 b1 b2 b3 : BitVec 8) : BitVec 32 := b3 ++ b2 ++ b1 ++ b0

/-- Four bytes with the top bit set, less four bytes below 128: nothing is borrowed from a neighbour. -/
theorem sub_word (a0 a1 a2 a3 c : BitVec 8) (h0 : c ≤ a0) (h1 : c ≤ a1) (h2 : c ≤ a2) (h3 : c ≤ a3) :
    word a0 a1 a2 a3 - word c c c c = word (a0 - c) (a1 - c) (a2 - c) (a3 - c) := by
  have w : ∀ b0 b1 b2 b3 : BitVec 8, (word b0 b1 b2 b3).toNat = b0.toNat + 2 ^ 8 * b1.toNat + 2 ^ 16 * b2.toNat + 2 ^ 24 * b3.toNat := by
    intro b0 b1 b2 b3
    have l0 := b0.isLt; have l1 := b1.isLt; have l2 := b2.isLt; have l3 := b3.isLt
    unfold word
    simp only [BitVec.toNat_append]
    rw [← Nat.shiftLeft_add_eq_or_of_lt (by omega), ← Nat.shiftLeft_add_eq_or_of_lt (by omega), ← Nat.shiftLeft_add_eq_or_of_lt (by omega)]
    simp only [Nat.shiftLeft_eq]
    omega
  have e0 := BitVec.toNat_sub_of_le h0
  have e1 := BitVec.toNat_sub_of_le h1
  have e2 := BitVec.toNat_sub_of_le h2
  have e3 := BitVec.toNat_sub_of_le h3
  rw [BitVec.le_def] at h0 h1 h2 h3
  have hle : word c c c c ≤ word a0 a1 a2 a3 := by rw [BitVec.le_def, w, w]; omega
  apply BitVec.eq_of_toNat_eq
  rw [BitVec.toNat_sub_of_le hle, w, w, w, e0, e1, e2, e3]
  omega

theorem byte_word (b0 b1 b2 b3 : BitVec 8) : byte (word b0 b1 b2 b3) 0 = b0 ∧ byte (word b0 b1 b2 b3) 1 = b1 ∧ byte (word b0 b1 b2 b3) 2 = b2
    ∧ byte (word b0 b1 b2 b3) 3 = b3 := by
  unfold byte word
  refine ⟨?_, ?_, ?_, ?_⟩ <;>
  · apply BitVec.eq_of_getLsbD_eq
    intro i hi
    simp only [BitVec.getLsbD_extractLsb', BitVec.getLsbD_append, hi, decide_true, Bool.true_and]
    split_ifs <;> first | omega | (congr 1; omega)

theorem word_byte (x : BitVec 32) : word (byte x 0) (byte x 1) (byte x 2) (byte x 3) = x := by
  unfold byte word
  apply BitVec.eq_of_getLsbD_eq
  intro i hi
  simp only [BitVec.getLsbD_append, BitVec.getLsbD_extractLsb']
  split_ifs <;> (rw [decide_eq_true (by omega), Bool.true_and]; congr 1; omega)

theorem and_word (a0 a1 a2 a3 b0 b1 b2 b3 : BitVec 8) :
    word a0 a1 a2 a3 &&& word b0 b1 b2 b3 = word (a0 &&& b0) (a1 &&& b1) (a2 &&& b2) (a3 &&& b3) := by
  apply BitVec.eq_of_getLsbD_eq
  intro i hi
  simp only [word, BitVec.getLsbD_and, BitVec.getLsbD_append]
  split_ifs <;> rfl
theorem xor_word (a0 a1 a2 a3 b0 b1 b2 b3 : BitVec 8) :
    word a0 a1 a2 a3 ^^^ word b0 b1 b2 b3 = word (a0 ^^^ b0) (a1 ^^^ b1) (a2 ^^^ b2) (a3 ^^^ b3) := by
  apply BitVec.eq_of_getLsbD_eq
  intro i hi
  simp only [word, BitVec.getLsbD_xor, BitVec.getLsbD_append]
  split_ifs <;> rfl
theorem or_word (a0 a1 a2 a3 b0 b1 b2 b3 : BitVec 8) :
    word a0 a1 a2 a3 ||| word b0 b1 b2 b3 = word (a0 ||| b0) (a1 ||| b1) (a2 ||| b2) (a3 ||| b3) := by
  apply BitVec.eq_of_getLsbD_eq
  intro i hi
  simp only [word, BitVec.getLsbD_or, BitVec.getLsbD_append]
  split_ifs <;> rfl

/-- One byte of it. -/
def ext8 (b : BitVec 8) : BitVec 8 := (((b &&& 15#8) ^^^ 8#8 ||| 128#8) - 8#8) ^^^ 128#8

theorem ext_word (b0 b1 b2 b3 : BitVec 8) : ext (word b0 b1 b2 b3) = word (ext8 b0) (ext8 b1) (ext8 b2) (ext8 b3) := by
  unfold ext
  rw [show (252645135#32 : BitVec 32) = word 15#8 15#8 15#8 15#8 by decide, show (134744072#32 : BitVec 32) = word 8#8 8#8 8#8 8#8 by decide,
    show (2155905152#32 : BitVec 32) = word 128#8 128#8 128#8 128#8 by decide, and_word, xor_word, or_word]
  have H : ∀ b : BitVec 8, 8#8 ≤ (b &&& 15#8) ^^^ 8#8 ||| 128#8 := by decide +kernel
  rw [sub_word _ _ _ _ _ (H _) (H _) (H _) (H _), xor_word]
  rfl

theorem byte_ext (x : BitVec 32) (q : ℕ) (hq : q < 4) : byte (ext x) q = ext8 (byte x q) := by
  have h := ext_word (byte x 0) (byte x 1) (byte x 2) (byte x 3)
  rw [word_byte] at h
  obtain ⟨h0, h1, h2, h3⟩ := byte_word (ext8 (byte x 0)) (ext8 (byte x 1)) (ext8 (byte x 2)) (ext8 (byte x 3))
  rw [← h] at h0 h1 h2 h3
  interval_cases q <;> assumption

/-- The field of a byte of the word, shifted down by four bits or by none. -/
theorem ext8_shift (x : BitVec 32) (h q : ℕ) (hq : q < 4) : ext8 (byte (x >>> (4 * (h % 2))) q) = Cert.Spec.nib (byte x q) h := by
  have L : ∀ b : BitVec 8, ext8 b = (b.extractLsb' 0 4).signExtend 8 := by decide +kernel
  rw [L]
  unfold Cert.Spec.nib
  congr 1
  apply BitVec.eq_of_getLsbD_eq
  intro i hi
  unfold byte
  have : h % 2 < 2 := Nat.mod_lt _ (by omega)
  simp only [BitVec.getLsbD_extractLsb', BitVec.getLsbD_ushiftRight, hi, decide_true, Bool.true_and]
  have e1 : 0 + i < 8 := by omega
  have e2 : 4 * (h % 2) + i < 8 := by omega
  simp only [e1, e2, decide_true, Bool.true_and]
  congr 1; omega

end Cert.Nib
-- ==== Proof.Unpack.lean ====
/-
  The packed weights of `mixed_linear`, unpacked: column `c` of the unpacked tile is field `c % 2` of byte column `c / 2`.

  Four rows of bytes are read as one row of 32-bit words; for each 128 columns the words of 64 lanes are gathered twice each,
  the odd columns shifted down by four bits, and the fields of the four bytes sign-extended inside the word.
-/
module

public import proofs.«01_k».proof.Proof.LinBody
public import proofs.«01_k».proof.Proof.Nib
public import Idealize.ShloMosaic.Lib.Pointwise

@[expose] public section

set_option maxRecDepth 16384

noncomputable section

namespace Cert.Kernel.Lin

open Cert.Kernel Cert.Kernel.Gen
open Idealize.ShloMosaic
open Cert.Nib (byte ext)

variable {F : FTy → Type} [FloatOps F]

/-- The lane a column reads. -/
def lane (c : BitVec 32) : IVec S112x128 32 :=
  have v26 : IVec S112x128 32 := iota .tc S112x128 32 [1] iota_S112x128_d1_w32
  have v : IVec S112x128 32 := addi (shrsi v26 (broadcast S112x128 1#32)) (broadcast S112x128 c)
  shapeCast S112x128 (shapeCast S112x128x1 (select (cmpi .slt v (broadcast S112x128 0#32)) (addi v (broadcast S112x128 128#32)) v)
    shapeCasts_S112x128_S112x128x1) shapeCasts_S112x128x1_S112x128

/-- The words of 128 unpacked columns, each field shifted to the low half of its byte. -/
def field (z : IVec S112x128 32) (c : BitVec 32) : IVec S112x128 32 := shrui (dynamicGather 1 z (lane c)) k1_pay5

/-- 128 unpacked columns. -/
def grp (z : IVec S112x128 32) (c : BitVec 32) : IVec S448x128 8 := k1_pay9 (field z c) k1_pay8

theorem unpacked_eq4 (v : Vec F S448x256 .i8) : unpacked v = shapeCast S1x448x512 (sitofp .bf16 (concatenate S448x512 1
    [⟨S448x128, grp (k1_pay6 v) 0#32⟩, ⟨S448x128, grp (k1_pay6 v) 64#32⟩, ⟨S448x128, grp (k1_pay11 (k1_pay4 v)) 0#32⟩,
      ⟨S448x128, grp (k1_pay11 (k1_pay4 v)) 64#32⟩] concatenates_S448x128_S448x128_S448x128_S448x128_S448x512_d1)) shapeCasts_S448x512_S1x448x512 := rfl

theorem field_at (z : IVec S112x128 32) (c : ℕ) (hc : c = 0 ∨ c = 64) (a : Fin 112) (l : Fin 128) :
    field z (BitVec.ofNat 32 c) (ix2 a l) = z (ix2 a ⟨c + l.val / 2, by omega⟩) >>> (4 * (l.val % 2)) := by
  have H : ∀ c : Fin 2, ∀ l : Fin 128, (Scalar.select (IntOp.cmpi CmpIPredicate.slt (IntOp.addi (IntOp.shrsi ArithUnit.vector (BitVec.ofNat 32 l.val) 1#32) (BitVec.ofNat 32 (64 * c.val))) 0#32)
        (IntOp.addi (IntOp.addi (IntOp.shrsi ArithUnit.vector (BitVec.ofNat 32 l.val) 1#32) (BitVec.ofNat 32 (64 * c.val))) 128#32)
        (IntOp.addi (IntOp.shrsi ArithUnit.vector (BitVec.ofNat 32 l.val) 1#32) (BitVec.ofNat 32 (64 * c.val)))).toNat % 128 = 64 * c.val + l.val / 2 := by
    decide +kernel
  have S : ∀ l : Fin 128, IntOp.muli (IntOp.andi (BitVec.ofNat 32 l.val) 1#32) 4#32 = BitVec.ofNat 32 (4 * (l.val % 2)) := by decide +kernel
  have T : ∀ (x : BitVec 32) (n : ℕ), n < 32 → IntOp.shrui ArithUnit.vector x (BitVec.ofNat 32 n) = x >>> n := fun x n hn => by
    have e : (BitVec.ofNat 32 n).toNat = n := by rw [BitVec.toNat_ofNat, Nat.mod_eq_of_lt (by omega)]
    unfold IntOp.shrui
    rw [e, if_pos hn]
    show x >>> (BitVec.ofNat 32 n).toNat = _
    rw [e]
  unfold field
  pointwise [lane, k1_pay5]
  rw [S, T _ _ (by omega)]
  congr 2
  congr 1
  apply Fin.ext
  rcases hc with rfl | rfl
  · have := H 0 l; simpa using this
  · have := H 1 l; simpa using this

/-- A row of bytes read out of the words. -/
theorem bytes_at (X : IVec S112x128 32) (h : S112x128.Bitcasts 32 S448x128 8) (r : Fin 448) (l : Fin 128) :
    bitcast S448x128 8 X h (ix2 r l) = byte (X (ix2 ⟨r.val / 4, by omega⟩ l)) (r.val % 4) := by
  apply BitVec.eq_of_getLsbD_eq
  intro q hq
  have hr : Shape.row (s := S448x128) (ix2 r l) = r.val := rfl
  rw [bitcast_getLsbD X h _ q hq (by decide)]
  unfold byte
  rw [BitVec.getLsbD_extractLsb', decide_eq_true hq, Bool.true_and]
  have e1 : (r.val * 8 + q) / 32 = r.val / 4 := by omega
  have e2 : (Shape.row (s := S448x128) (ix2 r l) * 8 + q) % 32 = 8 * (r.val % 4) + q := by rw [hr]; omega
  rw [e2]
  congr 2
  funext c
  match c with
  | ⟨0, _⟩ => exact Fin.ext ((h.srcIdx_row _ _ _ ⟨0, Nat.zero_lt_two⟩ rfl).trans (by show (Shape.row (s := S448x128) (ix2 r l) * 8 + q) / 32 = _; rw [hr]; exact e1))
  | ⟨1, _⟩ => exact Fin.ext (h.srcIdx_other _ _ _ ⟨1, Nat.one_lt_two⟩ (by show ¬ 1 + 2 = 2; omega))

/-- A byte of the words read out of the bytes. -/
theorem words_at (v : Vec F S448x256 .i8) (a : Fin 112) (l : Fin 256) (q : ℕ) (hq : q < 4) :
    byte (k1_pay4 (F := F) v (ix2 a l)) q = v (ix2 ⟨4 * a.val + q, by omega⟩ l) := by
  apply BitVec.eq_of_getLsbD_eq
  intro i hi
  unfold byte k1_pay4
  rw [BitVec.getLsbD_extractLsb', decide_eq_true hi, Bool.true_and]
  refine (bitcast_8_32_getLsbD_ix2 (R := 448) (r := 112) (n := 256) v bitcasts_S448x256_w8_S112x256_w32 a l (8 * q + i) (by omega) ⟨4 * a.val + q, by omega⟩ (by show 4 * a.val + q = 4 * a.val + (8 * q + i) / 8; omega)).trans ?_
  congr 1
  omega

theorem grp_at (z : IVec S112x128 32) (c : ℕ) (hc : c = 0 ∨ c = 64) (r : Fin 448) (l : Fin 128) :
    grp z (BitVec.ofNat 32 c) (ix2 r l) = Cert.Spec.nib (byte (z (ix2 ⟨r.val / 4, by omega⟩ ⟨c + l.val / 2, by omega⟩)) (r.val % 4)) l.val := by
  unfold grp
  have e : k1_pay9 (field z (BitVec.ofNat 32 c)) k1_pay8 = bitcast S448x128 8 (fun j => ext (field z (BitVec.ofNat 32 c) j)) bitcasts_S112x128_w32_S448x128_w8 := rfl
  rw [e, bytes_at, Cert.Nib.byte_ext _ _ (Nat.mod_lt _ (by omega)), field_at z c hc, Cert.Nib.ext8_shift _ _ _ (Nat.mod_lt _ (by omega))]

theorem slice_lo (v : Vec F S448x256 .i8) (a : Fin 112) (l : Fin 128) : k1_pay6 (F := F) v (ix2 a l) = k1_pay4 v (ix2 a ⟨l.val, by omega⟩) := by
  pointwise [k1_pay6]
theorem slice_hi (v : Vec F S448x256 .i8) (a : Fin 112) (l : Fin 128) :
    k1_pay11 (k1_pay4 (F := F) v) (ix2 a l) = k1_pay4 v (ix2 a ⟨128 + l.val, by omega⟩) := by
  pointwise [k1_pay11]

theorem nib_congr (p : BitVec 8) {h h' : ℕ} (e : h % 2 = h' % 2) : Cert.Spec.nib p h = Cert.Spec.nib p h' := by
  unfold Cert.Spec.nib; rw [e]

theorem grpv_lo (v : Vec F S448x256 .i8) (c : ℕ) (hc : c = 0 ∨ c = 64) (r : Fin 448) (l : Fin 128) :
    grp (k1_pay6 (F := F) v) (BitVec.ofNat 32 c) (ix2 r l) = Cert.Spec.nib (v (ix2 r ⟨c + l.val / 2, by omega⟩)) l.val := by
  rw [grp_at _ _ hc, slice_lo, words_at _ _ _ _ (Nat.mod_lt _ (by omega))]
  congr 3
  exact Fin.ext (by show 4 * (r.val / 4) + r.val % 4 = _; omega)
theorem grpv_hi (v : Vec F S448x256 .i8) (c : ℕ) (hc : c = 0 ∨ c = 64) (r : Fin 448) (l : Fin 128) :
    grp (k1_pay11 (k1_pay4 (F := F) v)) (BitVec.ofNat 32 c) (ix2 r l) = Cert.Spec.nib (v (ix2 r ⟨128 + (c + l.val / 2), by omega⟩)) l.val := by
  rw [grp_at _ _ hc, slice_hi, words_at _ _ _ _ (Nat.mod_lt _ (by omega))]
  congr 3
  exact Fin.ext (by show 4 * (r.val / 4) + r.val % 4 = _; omega)

/-- Four groups of 128 columns side by side. -/
theorem four_at (g0 g1 g2 g3 : IVec S448x128 8) (r : Fin 448) (c : Fin 512) (b : BitVec 8)
    (h0 : ∀ l : Fin 128, c.val = l.val → g0 (ix2 r l) = b) (h1 : ∀ l : Fin 128, c.val = 128 + l.val → g1 (ix2 r l) = b)
    (h2 : ∀ l : Fin 128, c.val = 256 + l.val → g2 (ix2 r l) = b) (h3 : ∀ l : Fin 128, c.val = 384 + l.val → g3 (ix2 r l) = b) :
    shapeCast S1x448x512 (sitofp (F := Ideal) .bf16 (concatenate S448x512 1 [⟨S448x128, g0⟩, ⟨S448x128, g1⟩, ⟨S448x128, g2⟩, ⟨S448x128, g3⟩]
      concatenates_S448x128_S448x128_S448x128_S448x128_S448x512_d1)) shapeCasts_S448x512_S1x448x512 (ix3 0 r c) = Cert.Spec.val b := by
  unfold Cert.Spec.val
  pointwise
  congr 1
  by_cases c0 : c.val < 128
  · rw [dif_pos c0]
    exact h0 ⟨c.val, c0⟩ rfl
  rw [dif_neg c0]
  by_cases c1 : c.val - 128 < 128
  · rw [dif_pos c1]
    exact h1 ⟨c.val - 128, c1⟩ (by show c.val = 128 + (c.val - 128); omega)
  rw [dif_neg c1]
  by_cases c2 : c.val - 128 - 128 < 128
  · rw [dif_pos c2]
    exact h2 ⟨c.val - 128 - 128, c2⟩ (by show c.val = 256 + (c.val - 128 - 128); omega)
  rw [dif_neg c2]
  exact h3 ⟨c.val - 128 - 128 - 128, by omega⟩ (by show c.val = 384 + (c.val - 128 - 128 - 128); omega)

/-- The unpacked tile at an index. -/
theorem unpacked_at (v : Vec Ideal S448x256 .i8) (r : Fin 448) (c : Fin 512) :
    unpacked (F := Ideal) v (ix3 0 r c) = Cert.Spec.val (Cert.Spec.nib (v (ix2 r ⟨c.val / 2, by omega⟩)) (c.val % 2)) := by
  have E : ∀ (c' : ℕ) (h : c' = c.val / 2) (h' : c' < 256) (l : Fin 128), l.val % 2 = c.val % 2 →
      Cert.Spec.nib (v (ix2 r ⟨c', h'⟩)) l.val = Cert.Spec.nib (v (ix2 r ⟨c.val / 2, by omega⟩)) (c.val % 2) := fun c' h h' l hl => by
    subst h; exact nib_congr _ (by omega)
  rw [unpacked_eq4]
  refine four_at _ _ _ _ r c _ (fun l hl => ?_) (fun l hl => ?_) (fun l hl => ?_) (fun l hl => ?_)
  · exact (grpv_lo v 0 (.inl rfl) r l).trans (E _ (by omega) _ l (by omega))
  · exact (grpv_lo v 64 (.inr rfl) r l).trans (E _ (by omega) _ l (by omega))
  · exact (grpv_hi v 0 (.inl rfl) r l).trans (E _ (by omega) _ l (by omega))
  · exact (grpv_hi v 64 (.inr rfl) r l).trans (E _ (by omega) _ l (by omega))

end Cert.Kernel.Lin

end
-- ==== Proof.LinPay.lean ====
/-
  The block `mixed_linear` stores, element by element, over the extended reals.
-/
module

public import proofs.«01_k».proof.Proof.LinReg
public import proofs.«01_k».proof.Proof.Unpack

@[expose] public section

set_option maxRecDepth 16384

noncomputable section

namespace Cert.Kernel.Lin

open Cert.Kernel Cert.Kernel.Gen
open Idealize.ShloMosaic
open Cert.Spec (val)

theorem pay16_at (q : Vec Ideal S768x1024 .i8) (w : FVec Ideal S1x1024x512 .bf16) (i : Fin 768) (j : Fin 512) :
    k1_pay16 (F := Ideal) q w (ix2 i j) = ∑ k : Fin 1024, val (q (ix2 i k)) * w (ix3 0 k j) := by
  unfold val
  pointwise [k1_pay16]

theorem pay17_at (q : Vec Ideal S768x7168 .i8) (w : FVec Ideal S1x7168x512 .bf16) (i : Fin 768) (j : Fin 512) :
    k1_pay17 (F := Ideal) q w (ix2 i j) = ∑ k : Fin 7168, val (q (ix2 i k)) * w (ix3 0 k j) := by
  unfold val
  pointwise [k1_pay17]

/-- Column `b` of the store at column `o` is column `o + b` of the block. -/
theorem emb_col (o : ℕ) (inb : ∀ a, (![0, o] : Fin 2 → ℕ) a + S768x128.size a ≤ S768x512.size a) (a : Fin 768) (b : Fin 128) (h : o + b.val < 512) :
    (Rect.unit (s := S768x512) ![0, o] S768x128.size inb).emb (ix2 a b) = ix2 a ⟨o + b.val, h⟩ := by
  refine Shape.idx_ext₂ (n := S768x512.size) ?_ ?_
  · show 0 + 1 * a.val = a.val; omega
  · show o + 1 * b.val = o + b.val; omega

/-- A load of 128 columns of a scale row. -/
theorem ld_col (v : FVec Ideal S1x512 .f32) (o : ℕ) (inb : ∀ a, (![0, o] : Fin 2 → ℕ) a + S1x128.size a ≤ S1x512.size a) (b : Fin 128) (h : o + b.val < 512) :
    View.ld (Val := Elt Ideal) (e' := .f32) v (Rect.unit (s := S1x512) ![0, o] S1x128.size inb) (ix2 0 b) = v (ix2 0 ⟨o + b.val, h⟩) := by
  show v _ = v _
  congr 1
  refine Shape.idx_ext₂ (n := S1x512.size) ?_ ?_
  · show 0 + 1 * 0 = 0; omega
  · show o + 1 * b.val = o + b.val; omega

variable (qh : Vec Ideal S768x1024 .i8) (sh : FVec Ideal S768x128 .f32) (ql : Vec Ideal S768x7168 .i8) (sl : FVec Ideal S768x128 .f32)
  (whs wls : FVec Ideal S1x512 .f32) (wh : FVec Ideal S1x1024x512 .bf16) (wl : FVec Ideal S1x7168x512 .bf16)

theorem pay21_at (ah al : FVec Ideal S768x512 .f32) (v w : FVec Ideal S1x128 .f32) (a : Fin 768) (b : Fin 128) :
    k1_pay21 (F := Ideal) ah al sh v sl w (ix2 a b) = sh (ix2 a b) * v (ix2 0 b) * ah (ix2 a ⟨128 + b.val, by omega⟩)
      + sl (ix2 a b) * w (ix2 0 b) * al (ix2 a ⟨128 + b.val, by omega⟩) := by
  pointwise [k1_pay21]
theorem pay25_at (ah al : FVec Ideal S768x512 .f32) (v w : FVec Ideal S1x128 .f32) (a : Fin 768) (b : Fin 128) :
    k1_pay25 (F := Ideal) ah al sh v sl w (ix2 a b) = sh (ix2 a b) * v (ix2 0 b) * ah (ix2 a ⟨384 + b.val, by omega⟩)
      + sl (ix2 a b) * w (ix2 0 b) * al (ix2 a ⟨384 + b.val, by omega⟩) := by
  pointwise [k1_pay25]
theorem pay24_at (ah al : FVec Ideal S768x512 .f32) (v w : FVec Ideal S1x128 .f32) (a : Fin 768) (b : Fin 128) :
    k1_pay24 (F := Ideal) al (k1_pay22 ah sh v) (k1_pay23 sl) w (ix2 a b) = sh (ix2 a b) * v (ix2 0 b) * ah (ix2 a ⟨256 + b.val, by omega⟩)
      + sl (ix2 a b) * w (ix2 0 b) * al (ix2 a ⟨256 + b.val, by omega⟩) := by
  pointwise [k1_pay24, k1_pay22, k1_pay23]
theorem pay20_at (al : FVec Ideal S768x512 .f32) (v w : FVec Ideal S1x128 .f32) (a : Fin 768) (b : Fin 128) :
    k1_pay20 (F := Ideal) al (k1_pay18 qh wh sh v) (k1_pay19 sl) w (ix2 a b) = sh (ix2 a b) * v (ix2 0 b) * k1_pay16 (F := Ideal) qh wh (ix2 a ⟨b.val, by omega⟩)
      + sl (ix2 a b) * w (ix2 0 b) * al (ix2 a ⟨b.val, by omega⟩) := by
  pointwise [k1_pay20, k1_pay18, k1_pay19]

/-- The stored block: both scales times both products. -/
theorem yBlk_at (fh fl : Fin 768 → EReal) (hsh : ∀ a b, sh (ix2 a b) = fh a) (hsl : ∀ a b, sl (ix2 a b) = fl a) (i : Fin 768) (j : Fin 512) :
    yBlk (F := Ideal) qh sh ql sl whs wls wh wl (ix2 i j)
      = fh i * whs (ix2 0 j) * k1_pay16 (F := Ideal) qh wh (ix2 i j) + fl i * wls (ix2 0 j) * k1_pay17 (F := Ideal) ql wl (ix2 i j) := by
  unfold yBlk
  let G : S768x512.Idx → EReal := fun y => fh (y 0) * whs (ix2 0 (y 1)) * k1_pay16 (F := Ideal) qh wh y + fl (y 0) * wls (ix2 0 (y 1)) * k1_pay17 (F := Ideal) ql wl y
  refine View.canon_apply_of_pieces (Val := Elt Ideal) (e := .bf16) G _ (fun p hp y => ?_) (ix2 i j) (cover4 (F := Ideal) _ _ _ _ _)
  simp only [List.mem_cons, List.not_mem_nil, or_false] at hp
  rcases hp with rfl | rfl | rfl | rfl
  · obtain ⟨a, b, rfl⟩ : ∃ (a : Fin 768) (b : Fin 128), y = ix2 a b := ⟨y 0, y 1, eq_ix2 y⟩
    refine Eq.trans ((pay25_at sh sl _ _ _ _ a b).trans ?_) (congrArg G (emb_col 384 inb_S768x512_S768x128_0_384 a b (by omega)).symm)
    rw [hsh, hsl, ld_col _ 384 _ _ (by omega), ld_col _ 384 _ _ (by omega)]; rfl
  · obtain ⟨a, b, rfl⟩ : ∃ (a : Fin 768) (b : Fin 128), y = ix2 a b := ⟨y 0, y 1, eq_ix2 y⟩
    refine Eq.trans ((pay24_at sh sl _ _ _ _ a b).trans ?_) (congrArg G (emb_col 256 inb_S768x512_S768x128_0_256 a b (by omega)).symm)
    rw [hsh, hsl, ld_col _ 256 _ _ (by omega), ld_col _ 256 _ _ (by omega)]; rfl
  · obtain ⟨a, b, rfl⟩ : ∃ (a : Fin 768) (b : Fin 128), y = ix2 a b := ⟨y 0, y 1, eq_ix2 y⟩
    refine Eq.trans ((pay21_at sh sl _ _ _ _ a b).trans ?_) (congrArg G (emb_col 128 inb_S768x512_S768x128_0_128 a b (by omega)).symm)
    rw [hsh, hsl, ld_col _ 128 _ _ (by omega), ld_col _ 128 _ _ (by omega)]; rfl
  · obtain ⟨a, b, rfl⟩ : ∃ (a : Fin 768) (b : Fin 128), y = ix2 a b := ⟨y 0, y 1, eq_ix2 y⟩
    have e0 : (⟨b.val, by omega⟩ : Fin 512) = ⟨0 + b.val, by omega⟩ := Fin.ext (by show b.val = 0 + b.val; omega)
    refine Eq.trans ((pay20_at qh sh sl wh _ _ _ a b).trans ?_) (congrArg G (emb_col 0 inb_S768x512_S768x128_0_0 a b (by omega)).symm)
    rw [hsh, hsl, ld_col _ 0 _ _ (by omega), ld_col _ 0 _ _ (by omega), e0]; rfl

end Cert.Kernel.Lin

end
-- ==== Proof.LinVal.lean ====
/-
  What `mixed_linear` leaves in its array over the extended reals: the two-tier product of the codes it finds with the weights.
-/
module

public import proofs.«01_k».proof.Proof.LinPay
public import Idealize.ShloMosaic.Lib.Pipeline.ValueKit

@[expose] public section

set_option maxRecDepth 16384

noncomputable section

namespace Cert.Kernel.Lin

open Cert.Kernel Cert.Kernel.Gen
open Cert.Spec (val nib)

open Idealize.ShloMosaic
open Idealize.ShloMosaic.TcCoe Idealize.ShloMosaic.Tactic
open Idealize.ShloMosaic.Pipeline (Dat Cfg Window)

variable (V : (c : Dev nD) → (b : Ref sig .tc) → Buf (Elt Ideal) ((c : Thread nD τ).loc b)) (c : Dev nD)

/-- The weights and their scales as the region finds them. -/
def W : IVec ⟨2, ![1024, 22016]⟩ 8 := V c main_arg2
def WS : FVec Ideal ⟨2, ![1, 22016]⟩ .f32 := V c main_v2
def P : IVec ⟨2, ![7168, 11008]⟩ 8 := V c main_arg4
def PS : FVec Ideal ⟨2, ![1, 22016]⟩ .f32 := V c main_v3

/-! ## The blocks' places -/

theorem idx0 : ∀ t : Fin grid1.N, win1_0.index t = ![if t.val / 16 = 0 then 0 else t.val % 16, 0] := by decide +kernel
theorem idx1 : ∀ t : Fin grid1.N, win1_1.index t = ![if t.val / 16 = 0 then 0 else t.val % 16, 0] := by decide +kernel
theorem idx2 : ∀ t : Fin grid1.N, win1_2.index t = ![if t.val / 16 = 0 then 0 else t.val % 16, 0] := by decide +kernel
theorem idx3 : ∀ t : Fin grid1.N, win1_3.index t = ![if t.val / 16 = 0 then 0 else t.val % 16, 0] := by decide +kernel
theorem idx4 : ∀ t : Fin grid1.N, win1_4.index t = ![t.val % 16, min (t.val / 16) 42] := by decide +kernel
theorem idx5 : ∀ t : Fin grid1.N, win1_5.index t = ![0, t.val / 16 - 1] := by decide +kernel
theorem idx6 : ∀ t : Fin grid1.N, win1_6.index t = ![t.val % 16, min (t.val / 16) 42] := by decide +kernel
theorem idx7 : ∀ t : Fin grid1.N, win1_7.index t = ![0, t.val / 16 - 1] := by decide +kernel
theorem idx8 : ∀ t : Fin grid1.N, win1_8.index t = ![if t.val / 16 = 0 then 0 else t.val % 16, t.val / 16 - 1] := by decide +kernel

section Operands

variable (qh ql : ℕ → ℕ → BitVec 8) (sh sl : ℕ → EReal)
  (h0 : V c main_v1_0 = fun i : S12288x1024.Idx => qh (i 0).val (i 1).val)
  (h1 : V c main_v1_1 = fun i : S12288x128.Idx => sh (i 0).val)
  (h2 : V c main_v1_2 = fun i : S12288x7168.Idx => ql (i 0).val (i 1).val)
  (h3 : V c main_v1_3 = fun i : S12288x128.Idx => sl (i 0).val)

include h0 in
theorem qhB_at (t : Fin grid1.N) (ht : 16 ≤ t.val) (i : Fin 768) (k : Fin 1024) :
    qhB (F := Ideal) V c t (ix2 i k) = qh (768 * (t.val % 16) + i.val) k.val := by
  have e := idx0 t
  rw [if_neg (by omega)] at e
  unfold qhB
  refine (congrFun h0 _).trans (congrArg₂ qh ?_ ?_)
  · refine (Window.rect_emb_val win1_0 t (ix2 i k) 0).trans ?_
    rw [e]; show t.val % 16 * 768 + i.val = _; omega
  · refine (Window.rect_emb_val win1_0 t (ix2 i k) 1).trans ?_
    rw [e]; show 0 * 1024 + k.val = _; omega

include h2 in
theorem qlB_at (t : Fin grid1.N) (ht : 16 ≤ t.val) (i : Fin 768) (k : Fin 7168) :
    qlB (F := Ideal) V c t (ix2 i k) = ql (768 * (t.val % 16) + i.val) k.val := by
  have e := idx2 t
  rw [if_neg (by omega)] at e
  unfold qlB
  refine (congrFun h2 _).trans (congrArg₂ ql ?_ ?_)
  · refine (Window.rect_emb_val win1_2 t (ix2 i k) 0).trans ?_
    rw [e]; show t.val % 16 * 768 + i.val = _; omega
  · refine (Window.rect_emb_val win1_2 t (ix2 i k) 1).trans ?_
    rw [e]; show 0 * 7168 + k.val = _; omega

include h1 in
theorem shB_at (t : Fin grid1.N) (ht : 16 ≤ t.val) (i : Fin 768) (l : Fin 128) :
    shB (F := Ideal) V c t (ix2 i l) = sh (768 * (t.val % 16) + i.val) := by
  have e := idx1 t
  rw [if_neg (by omega)] at e
  unfold shB
  refine (congrFun h1 _).trans (congrArg sh ?_)
  refine (Window.rect_emb_val win1_1 t (ix2 i l) 0).trans ?_
  rw [e]; show t.val % 16 * 768 + i.val = _; omega

include h3 in
theorem slB_at (t : Fin grid1.N) (ht : 16 ≤ t.val) (i : Fin 768) (l : Fin 128) :
    slB (F := Ideal) V c t (ix2 i l) = sl (768 * (t.val % 16) + i.val) := by
  have e := idx3 t
  rw [if_neg (by omega)] at e
  unfold slB
  refine (congrFun h3 _).trans (congrArg sl ?_)
  refine (Window.rect_emb_val win1_3 t (ix2 i l) 0).trans ?_
  rw [e]; show t.val % 16 * 768 + i.val = _; omega

theorem whsB_at (t : Fin grid1.N) (ht : 16 ≤ t.val) (j : Fin 512) :
    whsB (F := Ideal) V c t (ix2 0 j) = WS V c (ix2 0 (Fin.ofNat 22016 (512 * (t.val / 16 - 1) + j.val))) := by
  have htl := lt704 t
  unfold whsB WS
  show V c main_v2 _ = V c main_v2 _
  congr 1
  refine Shape.idx_ext₂ (n := S1x22016.size) ?_ ?_
  · refine (Window.rect_emb_val win1_5 t (ix2 0 j) 0).trans ?_
    rw [idx5 t]; rfl
  · refine (Window.rect_emb_val win1_5 t (ix2 0 j) 1).trans ?_
    rw [idx5 t]; show (t.val / 16 - 1) * 512 + j.val = (512 * (t.val / 16 - 1) + j.val) % 22016; omega

theorem wlsB_at (t : Fin grid1.N) (ht : 16 ≤ t.val) (j : Fin 512) :
    wlsB (F := Ideal) V c t (ix2 0 j) = PS V c (ix2 0 (Fin.ofNat 22016 (512 * (t.val / 16 - 1) + j.val))) := by
  have htl := lt704 t
  unfold wlsB PS
  show V c main_v3 _ = V c main_v3 _
  congr 1
  refine Shape.idx_ext₂ (n := S1x22016.size) ?_ ?_
  · refine (Window.rect_emb_val win1_7 t (ix2 0 j) 0).trans ?_
    rw [idx7 t]; rfl
  · refine (Window.rect_emb_val win1_7 t (ix2 0 j) 1).trans ?_
    rw [idx7 t]; show (t.val / 16 - 1) * 512 + j.val = (512 * (t.val / 16 - 1) + j.val) % 22016; omega

theorem wN_at (n : ℕ) (h : n < 688) (a : Fin 64) (j : Fin 512) :
    wN (F := Ideal) V c n (ix2 a j) = W V c (ix2 (Fin.ofNat 1024 (64 * (n % 16) + a.val)) (Fin.ofNat 22016 (512 * (n / 16) + j.val))) := by
  have hp : (pn n).val = n := Nat.mod_eq_of_lt (by omega)
  have e := idx4 (pn n)
  rw [hp] at e
  unfold wN wB W
  show V c main_arg2 _ = V c main_arg2 _
  congr 1
  refine Shape.idx_ext₂ (n := S1024x22016.size) ?_ ?_
  · refine (Window.rect_emb_val win1_4 (pn n) (ix2 a j) 0).trans ?_
    rw [e]; show n % 16 * 64 + a.val = (64 * (n % 16) + a.val) % 1024; omega
  · refine (Window.rect_emb_val win1_4 (pn n) (ix2 a j) 1).trans ?_
    rw [e]; show min (n / 16) 42 * 512 + j.val = (512 * (n / 16) + j.val) % 22016; omega

theorem pN_at (n : ℕ) (h : n < 688) (a : Fin 448) (j : Fin 256) :
    pN (F := Ideal) V c n (ix2 a j) = P V c (ix2 (Fin.ofNat 7168 (448 * (n % 16) + a.val)) (Fin.ofNat 11008 (256 * (n / 16) + j.val))) := by
  have hp : (pn n).val = n := Nat.mod_eq_of_lt (by omega)
  have e := idx6 (pn n)
  rw [hp] at e
  unfold pN pB P
  show V c main_arg4 _ = V c main_arg4 _
  congr 1
  refine Shape.idx_ext₂ (n := S7168x11008.size) ?_ ?_
  · refine (Window.rect_emb_val win1_6 (pn n) (ix2 a j) 0).trans ?_
    rw [e]; show n % 16 * 448 + a.val = (448 * (n % 16) + a.val) % 7168; omega
  · refine (Window.rect_emb_val win1_6 (pn n) (ix2 a j) 1).trans ?_
    rw [e]; show min (n / 16) 42 * 256 + j.val = (256 * (n / 16) + j.val) % 11008; omega

theorem pay3_at (w : Vec Ideal S64x512 .i8) (a : Fin 64) (j : Fin 512) : k1_pay3 (F := Ideal) w (ix3 0 a j) = val (w (ix2 a j)) := by
  unfold val
  pointwise [k1_pay3]

/-- A weight tile at an index. -/
theorem whTile_at (K : ℕ) (hK : K < 43) (k : Fin 1024) (j : Fin 512) :
    whTile (wN (F := Ideal) V c) K (ix3 0 k j) = val (W V c (ix2 k (Fin.ofNat 22016 (512 * K + j.val)))) := by
  have hk := k.isLt
  refine Eq.trans (b := k1_pay3 (F := Ideal) (wN V c (16 * K + k.val / 64)) (ix3 0 ⟨k.val % 64, Nat.mod_lt _ (by omega)⟩ j)) ?_ ?_
  · unfold whTile
    refine congrArg (k1_pay3 (F := Ideal) (wN V c (16 * K + k.val / 64))) ?_
    funext a; fin_cases a <;> rfl
  · rw [pay3_at, wN_at V c _ (by omega)]
    congr 3
    · exact Fin.ext (by show (64 * ((16 * K + k.val / 64) % 16) + k.val % 64) % 1024 = k.val; omega)
    · rw [show (16 * K + k.val / 64) / 16 = K by omega]

theorem wlTile_at (K : ℕ) (hK : K < 43) (k : Fin 7168) (j : Fin 512) :
    wlTile (pN (F := Ideal) V c) K (ix3 0 k j)
      = val (nib (P V c (ix2 k (Fin.ofNat 11008 ((512 * K + j.val) / 2)))) ((512 * K + j.val) % 2)) := by
  have hk := k.isLt
  refine Eq.trans (b := unpacked (F := Ideal) (pN V c (16 * K + k.val / 448)) (ix3 0 ⟨k.val % 448, Nat.mod_lt _ (by omega)⟩ j)) ?_ ?_
  · unfold wlTile
    refine congrArg (unpacked (F := Ideal) (pN V c (16 * K + k.val / 448))) ?_
    funext a; fin_cases a <;> rfl
  · rw [unpacked_at, pN_at V c _ (by omega)]
    have e1 : (Fin.ofNat 7168 (448 * ((16 * K + k.val / 448) % 16) + k.val % 448)) = k :=
      Fin.ext (by show (448 * ((16 * K + k.val / 448) % 16) + k.val % 448) % 7168 = k.val; omega)
    have e2 : 256 * ((16 * K + k.val / 448) / 16) + j.val / 2 = (512 * K + j.val) / 2 := by omega
    dsimp only
    rw [e1, e2, show (512 * K + j.val) % 2 = j.val % 2 by omega]

include h0 h1 h2 h3 in
/-- The block a point stores. -/
theorem yAt_at (t : Fin grid1.N) (ht : 16 ≤ t.val) (i : Fin 768) (j : Fin 512) (r cc : ℕ) (hr : r = 768 * (t.val % 16) + i.val)
    (hc : cc = 512 * (t.val / 16 - 1) + j.val) :
    yAt (F := Ideal) V c t (ix2 i j)
      = sh r * WS V c (ix2 0 (Fin.ofNat 22016 cc)) * (∑ k : Fin 1024, val (qh r k.val) * val (W V c (ix2 k (Fin.ofNat 22016 cc))))
        + sl r * PS V c (ix2 0 (Fin.ofNat 22016 cc)) * (∑ k : Fin 7168, val (ql r k.val) * val (nib (P V c (ix2 k (Fin.ofNat 11008 (cc / 2)))) (cc % 2))) := by
  subst hr hc
  have htl := lt704 t
  unfold yAt
  rw [yBlk_at (fh := fun i => sh (768 * (t.val % 16) + i.val)) (fl := fun i => sl (768 * (t.val % 16) + i.val))
    (hsh := fun i l => shB_at V c sh h1 t ht i l) (hsl := fun i l => slB_at V c sl h3 t ht i l), whsB_at V c t ht, wlsB_at V c t ht,
    pay16_at, pay17_at]
  refine congrArg₂ (· + ·) (congrArg₂ (· * ·) rfl ?_) (congrArg₂ (· * ·) rfl ?_)
  · refine Finset.sum_congr rfl fun k _ => ?_
    rw [qhB_at V c qh h0 t ht, whTile_at V c _ (by omega)]
  · refine Finset.sum_congr rfl fun k _ => ?_
    rw [qlB_at V c ql h2 t ht, wlTile_at V c _ (by omega)]

/-- The array after the run. -/
def yOf (r cc : ℕ) : EReal :=
  sh r * WS V c (ix2 0 (Fin.ofNat 22016 cc)) * (∑ k : Fin 1024, val (qh r k.val) * val (W V c (ix2 k (Fin.ofNat 22016 cc))))
    + sl r * PS V c (ix2 0 (Fin.ofNat 22016 cc)) * (∑ k : Fin 7168, val (ql r k.val) * val (nib (P V c (ix2 k (Fin.ofNat 11008 (cc / 2)))) (cc % 2)))

include h0 h1 h2 h3 in
theorem arr8 : (dat V c).arrAt 8 cfg1.N = fun i : S12288x22016.Idx => yOf V c qh ql sh sl (i 0).val (i 1).val := by
  refine (dat V c).arrAt_eq_of_covers 8 _ (by decide +kernel) fun t hf y => ?_
  have hf := decide_eq_true_eq.mp ((flush8 t).symm.trans hf)
  blk_simp
  rw [after8]
  obtain ⟨i, j, rfl⟩ : ∃ (i : Fin 768) (j : Fin 512), y = ix2 i j := ⟨y 0, y 1, eq_ix2 y⟩
  have e := idx8 t
  rw [if_neg (by omega)] at e
  refine yAt_at V c qh ql sh sl h0 h1 h2 h3 t hf i j _ _ ?_ ?_
  · rw [e]; show t.val % 16 * 768 + i.val = _; omega
  · rw [e]; show (t.val / 16 - 1) * 512 + j.val = _; omega

end Operands

end Cert.Kernel.Lin

end
-- ==== Proof.Result.lean ====
/-
  The five results as whole arrays, in the shapes the program returns them.
-/
module

public import proofs.«01_k».proof.Proof.Spec

@[expose] public section

noncomputable section

namespace Cert.Spec

open Idealize.ShloMosaic

variable (a0 : FVec Ideal ⟨3, ![3, 4096, 8192]⟩ .bf16) (a1 : FVec Ideal ⟨2, ![8192, 8192]⟩ .bf16) (a2 : IVec ⟨2, ![1024, 22016]⟩ 8)
  (a3 : FVec Ideal ⟨1, ![22016]⟩ .f32) (a4 : IVec ⟨2, ![7168, 11008]⟩ 8) (a5 : FVec Ideal ⟨1, ![22016]⟩ .f32)

/-- The tokens in rows. -/
def rows : FVec Ideal ⟨2, ![12288, 8192]⟩ .bf16 := shapeCast ⟨2, ![12288, 8192]⟩ a0 (by decide)

/-- A vector as one row. -/
def row (a : FVec Ideal ⟨1, ![22016]⟩ .f32) : FVec Ideal ⟨2, ![1, 22016]⟩ .f32 := fun i => a (ix1 (i 1))

/-- The product. -/
def resY : FVec Ideal ⟨3, ![3, 4096, 22016]⟩ .bf16 :=
  shapeCast ⟨3, ![3, 4096, 22016]⟩ (fun i : (⟨2, ![12288, 22016]⟩ : Shape).Idx => Y (rows a0) a1 a2 (row a3) a4 (row a5) (i 0).val (i 1).val) (by decide)

/-- The int8 codes and their scales. -/
def resQH : IVec ⟨3, ![3, 4096, 1024]⟩ 8 :=
  shapeCast ⟨3, ![3, 4096, 1024]⟩ (fun i : (⟨2, ![12288, 1024]⟩ : Shape).Idx => qH (rows a0) a1 (i 0).val (i 1).val) (by decide)
def resSH : FVec Ideal ⟨2, ![3, 4096]⟩ .f32 :=
  shapeCast ⟨2, ![3, 4096]⟩ (fun i : (⟨2, ![12288, 1]⟩ : Shape).Idx => sH (rows a0) a1 (i 0).val) (by decide)

/-- The int4 codes and their scales. -/
def resQL : IVec ⟨3, ![3, 4096, 7168]⟩ 8 :=
  shapeCast ⟨3, ![3, 4096, 7168]⟩ (fun i : (⟨2, ![12288, 7168]⟩ : Shape).Idx => qL (rows a0) a1 (i 0).val (i 1).val) (by decide)
def resSL : FVec Ideal ⟨2, ![3, 4096]⟩ .f32 :=
  shapeCast ⟨2, ![3, 4096]⟩ (fun i : (⟨2, ![12288, 1]⟩ : Shape).Idx => sL (rows a0) a1 (i 0).val) (by decide)

end Cert.Spec

end
-- ==== Proof.KerVal.lean ====
/-
  What the program's run leaves in its five results, over the extended reals.
-/
module

public import proofs.«01_k».proof.Proof.Run
public import proofs.«01_k».proof.Proof.RotVal
public import proofs.«01_k».proof.Proof.LinVal
public import proofs.«01_k».proof.Proof.Result
public import Idealize.ShloMosaic.Lib.Pointwise

@[expose] public section

set_option maxRecDepth 65536

noncomputable section

namespace Cert.Kernel.Run

open Cert.Kernel Cert.Kernel.Gen
open Cert.Spec

open Idealize.ShloMosaic
open Idealize.ShloMosaic.TcCoe Idealize.ShloMosaic.Tactic

variable (m : (ℓ : Loc nD τ sig) → Buf (Elt Ideal) ℓ) (c : Dev nD)

/-- The arguments. -/
def a0 : FVec Ideal ⟨3, ![3, 4096, 8192]⟩ .bf16 := m ((c.tc : Thread nD τ).loc main_arg0)
def a1 : FVec Ideal ⟨2, ![8192, 8192]⟩ .bf16 := m ((c.tc : Thread nD τ).loc main_arg1)
def a2 : IVec ⟨2, ![1024, 22016]⟩ 8 := m ((c.tc : Thread nD τ).loc main_arg2)
def a3 : FVec Ideal ⟨1, ![22016]⟩ .f32 := m ((c.tc : Thread nD τ).loc main_arg3)
def a4 : IVec ⟨2, ![7168, 11008]⟩ 8 := m ((c.tc : Thread nD τ).loc main_arg4)
def a5 : FVec Ideal ⟨1, ![22016]⟩ .f32 := m ((c.tc : Thread nD τ).loc main_arg5)

/-! ## The host's reads -/

theorem VA_v0 : VA m c main_v0 = rows (a0 m c) := by
  unfold VA V1
  after_results
  rfl

theorem VA_arg1 : VA m c main_arg1 = a1 m c := V1_of m c main_arg1 (by decide)

theorem X_eq : Rot.X (VA m) c = rows (a0 m c) := VA_v0 m c
theorem U_eq : Rot.U (VA m) c = a1 m c := VA_arg1 m c

/-- A buffer neither region nor host line has written. -/
theorem V2_keep (b : Ref sig .tc) (h : b ∉ ([main_v1_0, main_v1_1, main_v1_2, main_v1_3] : List (Ref sig .tc))) (h0 : b ∉ hostOps0_W) :
    V2 m (outs m) c b = V0 m c b := (V2_of m (outs m) c b h).trans (V1_of m c b h0)

theorem row_eq (a : FVec Ideal ⟨1, ![22016]⟩ .f32) : shapeCast S1x22016 a shapeCasts_S22016_S1x22016 = row a := by
  funext i
  obtain ⟨x, y, rfl⟩ : ∃ (x : Fin 1) (y : Fin 22016), i = ix2 x y := ⟨i 0, i 1, eq_ix2 i⟩
  unfold row
  pointwise []

theorem VB_v2 : VB m c main_v2 = row (a3 m c) := by
  rw [VB_eq]
  refine Eq.trans ?_ (row_eq (a3 m c))
  have h := V2_keep m c main_arg3 (by decide) (by decide)
  unfold V3
  after_results
  rw [h]
  rfl

theorem VB_v3 : VB m c main_v3 = row (a5 m c) := by
  rw [VB_eq]
  refine Eq.trans ?_ (row_eq (a5 m c))
  have h := V2_keep m c main_arg5 (by decide) (by decide)
  unfold V3
  after_results
  rw [h]
  rfl

theorem VB_arg2 : VB m c main_arg2 = a2 m c := (VB_eq m c _).trans
  ((V3_of m (outs m) c main_arg2 (by decide)).trans (V2_keep m c main_arg2 (by decide) (by decide)))
theorem VB_arg4 : VB m c main_arg4 = a4 m c := (VB_eq m c _).trans
  ((V3_of m (outs m) c main_arg4 (by decide)).trans (V2_keep m c main_arg4 (by decide) (by decide)))

/-! ## The rotation's results -/

theorem out_0 : outA m main_v1_0 c = fun i : S12288x1024.Idx => qH (rows (a0 m c)) (a1 m c) (i 0).val (i 1).val := by
  rw [outA_0, Rot.arr2, X_eq, U_eq]
theorem out_1 : outA m main_v1_1 c = fun i : S12288x128.Idx => sH (rows (a0 m c)) (a1 m c) (i 0).val := by
  rw [outA_1, Rot.arr3, X_eq, U_eq]
theorem out_2 : outA m main_v1_2 c = fun i : S12288x7168.Idx => qL (rows (a0 m c)) (a1 m c) (i 0).val (i 1).val := by
  rw [outA_2, Rot.arr4, X_eq, U_eq]
theorem out_3 : outA m main_v1_3 c = fun i : S12288x128.Idx => sL (rows (a0 m c)) (a1 m c) (i 0).val := by
  rw [outA_3, Rot.arr5, X_eq, U_eq]

theorem VB_0 : VB m c main_v1_0 = fun i : S12288x1024.Idx => qH (rows (a0 m c)) (a1 m c) (i 0).val (i 1).val :=
  (VB_eq m c _).trans ((V3_of m (outs m) c main_v1_0 (by decide)).trans ((V2_out m c).1.trans (out_0 m c)))
theorem VB_1 : VB m c main_v1_1 = fun i : S12288x128.Idx => sH (rows (a0 m c)) (a1 m c) (i 0).val :=
  (VB_eq m c _).trans ((V3_of m (outs m) c main_v1_1 (by decide)).trans ((V2_out m c).2.1.trans (out_1 m c)))
theorem VB_2 : VB m c main_v1_2 = fun i : S12288x7168.Idx => qL (rows (a0 m c)) (a1 m c) (i 0).val (i 1).val :=
  (VB_eq m c _).trans ((V3_of m (outs m) c main_v1_2 (by decide)).trans ((V2_out m c).2.2.1.trans (out_2 m c)))
theorem VB_3 : VB m c main_v1_3 = fun i : S12288x128.Idx => sL (rows (a0 m c)) (a1 m c) (i 0).val :=
  (VB_eq m c _).trans ((V3_of m (outs m) c main_v1_3 (by decide)).trans ((V2_out m c).2.2.2.trans (out_3 m c)))

/-! ## The linear layer's result -/

theorem out_4 : outB m main_v4 c
    = fun i : S12288x22016.Idx => Y (rows (a0 m c)) (a1 m c) (a2 m c) (row (a3 m c)) (a4 m c) (row (a5 m c)) (i 0).val (i 1).val := by
  rw [outB_4, Lin.arr8 (VB m) c _ _ _ _ (VB_0 m c) (VB_1 m c) (VB_2 m c) (VB_3 m c)]
  unfold Lin.yOf Lin.W Lin.WS Lin.P Lin.PS Y accH accL
  rw [VB_arg2, VB_v2, VB_arg4, VB_v3]

/-! ## The results -/

theorem V4_keep (b : Ref sig .tc) (h : b ∉ ([main_v4] : List (Ref sig .tc))) (h1 : b ∉ hostOps1_W) : V4 m (outs m) c b = V2 m (outs m) c b :=
  (V4_of m (outs m) c b h).trans (V3_of m (outs m) c b h1)

theorem res_0 : V5 m (outs m) c main_v5 = resY (a0 m c) (a1 m c) (a2 m c) (a3 m c) (a4 m c) (a5 m c) := by
  have h := (V4_out m c).trans (out_4 m c)
  unfold V5
  after_results
  rw [h]
  rfl

theorem res_1 : V5 m (outs m) c main_v6 = resQH (a0 m c) (a1 m c) := by
  have h := (V4_keep m c main_v1_0 (by decide) (by decide)).trans ((V2_out m c).1.trans (out_0 m c))
  unfold V5
  after_results
  rw [h]
  rfl

theorem res_3 : V5 m (outs m) c main_v10 = resQL (a0 m c) (a1 m c) := by
  have h := (V4_keep m c main_v1_2 (by decide) (by decide)).trans ((V2_out m c).2.2.1.trans (out_2 m c))
  unfold V5
  after_results
  rw [h]
  rfl

/-- Lane 0 of an array whose lanes agree. -/
theorem lane0 (f : ℕ → EReal) :
    shapeCast S3x4096 (shapeCast S12288 (extractStridedSlice S12288x1 ![0, 0] (fun i : S12288x128.Idx => f (i 0).val) slices_S12288x128_S12288x1_0_0) shapeCasts_S12288x1_S12288) shapeCasts_S12288_S3x4096
      = shapeCast S3x4096 (fun i : S12288x1.Idx => f (i 0).val) (by decide) := by
  have e : extractStridedSlice S12288x1 ![0, 0] (fun i : S12288x128.Idx => f (i 0).val) slices_S12288x128_S12288x1_0_0 = fun i : S12288x1.Idx => f (i 0).val := by
    funext i
    obtain ⟨x, y, rfl⟩ : ∃ (x : Fin 12288) (y : Fin 1), i = ix2 x y := ⟨i 0, i 1, eq_ix2 i⟩
    pointwise []
  rw [e, shapeCast_comp]

theorem res_2 : V5 m (outs m) c main_v9 = resSH (a0 m c) (a1 m c) := by
  have h := (V4_keep m c main_v1_1 (by decide) (by decide)).trans ((V2_out m c).2.1.trans (out_1 m c))
  refine Eq.trans ?_ (lane0 (sH (rows (a0 m c)) (a1 m c)))
  unfold V5
  after_results
  rw [h]
  rfl

theorem res_4 : V5 m (outs m) c main_v13 = resSL (a0 m c) (a1 m c) := by
  have h := (V4_keep m c main_v1_3 (by decide) (by decide)).trans ((V2_out m c).2.2.2.trans (out_3 m c))
  refine Eq.trans ?_ (lane0 (sL (rows (a0 m c)) (a1 m c)))
  unfold V5
  after_results
  rw [h]
  rfl

end Cert.Kernel.Run

end
-- ==== Proof.RefHost.lean ====
/-
  The reference's host operations around its region: the bytes' two fields before it, and the scaled sum after it.
-/
module

public import proofs.«01_k».proof.Proof.Gen.ReferenceIdeal.Frame
public import proofs.«01_k».proof.Proof.Result
public import Idealize.ShloMosaic.Lib.Pointwise
public import Idealize.ShloMosaic.Lib.Claim

@[expose] public section

set_option maxRecDepth 65536

noncomputable section

namespace Cert.ReferenceIdeal.Arr

open Cert.ReferenceIdeal Cert.ReferenceIdeal.Gen
open Cert.Spec

open Idealize.ShloMosaic Idealize.SL.Sem
open Idealize.ShloMosaic.TcCoe Idealize.ShloMosaic.Tactic

/-! ## After the region -/

/-- Two matrices with their columns interleaved. -/
def stack (A B : FVec Ideal S12288x11008 .f32) : FVec Ideal S12288x22016 .f32 :=
  shapeCast S12288x22016 (concatenate S12288x11008x2 2
    [⟨S12288x11008x1, broadcastInDim S12288x11008x1 ![0, 1] bcast_S12288x11008_S12288x11008x1_0_1 A⟩,
     ⟨S12288x11008x1, broadcastInDim S12288x11008x1 ![0, 1] bcast_S12288x11008_S12288x11008x1_0_1 B⟩]
    concatenates_S12288x11008x1_S12288x11008x1_S12288x11008x2_d2) shapeCasts_S12288x11008x2_S12288x22016

theorem stack_at (A B : FVec Ideal S12288x11008 .f32) (r : Fin 12288) (c : Fin 22016) :
    stack A B (ix2 r c) = if c.val % 2 = 0 then A (ix2 r ⟨c.val / 2, by omega⟩) else B (ix2 r ⟨c.val / 2, by omega⟩) := by
  pointwise [stack]
  by_cases h : c.val % 2 = 0
  · rw [dif_pos (by omega), if_pos h]
  · rw [dif_neg (by omega), if_neg h]

/-- A product of a half of the columns, scaled. -/
def scaleE (sl : FVec Ideal S12288x1 .f32) (ps : FVec Ideal S22016 .f32) (e : FVec Ideal S12288x11008 .f32) : FVec Ideal S12288x11008 .f32 :=
  mulf (mulf (broadcastInDim S12288x11008 ![0, 1] bcast_S12288x1_S12288x11008_0_1 sl)
    (broadcastInDim S12288x11008 ![0, 1] bcast_S1x11008_S12288x11008_0_1
      (broadcastInDim S1x11008 ![1] bcast_S11008_S1x11008_1 (Host.slice S11008 ![0] ![2] ps slicesBy_S22016_S11008_0s2)))) e
def scaleO (sl : FVec Ideal S12288x1 .f32) (ps : FVec Ideal S22016 .f32) (e : FVec Ideal S12288x11008 .f32) : FVec Ideal S12288x11008 .f32 :=
  mulf (mulf (broadcastInDim S12288x11008 ![0, 1] bcast_S12288x1_S12288x11008_0_1 sl)
    (broadcastInDim S12288x11008 ![0, 1] bcast_S1x11008_S12288x11008_0_1
      (broadcastInDim S1x11008 ![1] bcast_S11008_S1x11008_1 (Host.slice S11008 ![1] ![2] ps slicesBy_S22016_S11008_1s2)))) e

theorem scaleE_at (sl : FVec Ideal S12288x1 .f32) (ps : FVec Ideal S22016 .f32) (e : FVec Ideal S12288x11008 .f32) (r : Fin 12288) (j : Fin 11008) :
    scaleE sl ps e (ix2 r j) = sl (ix2 r 0) * ps (ix1 ⟨2 * j.val, by omega⟩) * e (ix2 r j) := by
  pointwise [scaleE]
theorem scaleO_at (sl : FVec Ideal S12288x1 .f32) (ps : FVec Ideal S22016 .f32) (e : FVec Ideal S12288x11008 .f32) (r : Fin 12288) (j : Fin 11008) :
    scaleO sl ps e (ix2 r j) = sl (ix2 r 0) * ps (ix1 ⟨1 + 2 * j.val, by omega⟩) * e (ix2 r j) := by
  pointwise [scaleO]

/-- The sum of the two products, scaled. -/
def total (sh sl : FVec Ideal S12288x1 .f32) (ws ps : FVec Ideal S22016 .f32) (a : FVec Ideal S12288x22016 .f32) (e o : FVec Ideal S12288x11008 .f32) :
    FVec Ideal S12288x22016 .bf16 :=
  truncf .bf16 (addf (mulf (mulf (broadcastInDim S12288x22016 ![0, 1] bcast_S12288x1_S12288x22016_0_1 sh)
    (broadcastInDim S12288x22016 ![0, 1] bcast_S1x22016_S12288x22016_0_1 (broadcastInDim S1x22016 ![1] bcast_S22016_S1x22016_1 ws))) a)
    (stack (scaleE sl ps e) (scaleO sl ps o))) bitsLt_bf16_f32

theorem total_at (sh sl : FVec Ideal S12288x1 .f32) (ws ps : FVec Ideal S22016 .f32) (a : FVec Ideal S12288x22016 .f32) (e o : FVec Ideal S12288x11008 .f32)
    (r : Fin 12288) (c : Fin 22016) :
    total sh sl ws ps a e o (ix2 r c) = sh (ix2 r 0) * ws (ix1 c) * a (ix2 r c)
      + sl (ix2 r 0) * ps (ix1 c) * (if c.val % 2 = 0 then e (ix2 r ⟨c.val / 2, by omega⟩) else o (ix2 r ⟨c.val / 2, by omega⟩)) := by
  refine Eq.trans (b := sh (ix2 r 0) * ws (ix1 c) * a (ix2 r c) + stack (scaleE sl ps e) (scaleO sl ps o) (ix2 r c)) ?_ ?_
  · generalize hg : stack (scaleE sl ps e) (scaleO sl ps o) = g
    unfold total
    rw [hg]
    pointwise []
  · rw [stack_at]
    split_ifs with h
    · rw [scaleE_at, show (⟨2 * (c.val / 2), by omega⟩ : Fin 22016) = c from Fin.ext (by show 2 * (c.val / 2) = c.val; omega)]
    · rw [scaleO_at, show (⟨1 + 2 * (c.val / 2), by omega⟩ : Fin 22016) = c from Fin.ext (by show 1 + 2 * (c.val / 2) = c.val; omega)]

variable (Z : Valuation τ sig (Elt Ideal))

theorem tail_v44 : StableHlo.after (hostOps1 (F := Ideal)) Z (Proc.devRef .tc main_v44)
    = shapeCast S3x4096x22016 (total (Z (Proc.devRef .tc main_v20_1)) (Z (Proc.devRef .tc main_v20_3)) (Z (Proc.devRef .tc main_arg3)) (Z (Proc.devRef .tc main_arg5))
        (Z (Proc.devRef .tc main_v20_4)) (Z (Proc.devRef .tc main_v20_5)) (Z (Proc.devRef .tc main_v20_6))) shapeCasts_S12288x22016_S3x4096x22016 := by
  after_results
  rfl
theorem tail_v45 : StableHlo.after (hostOps1 (F := Ideal)) Z (Proc.devRef .tc main_v45)
    = shapeCast S3x4096x1024 (Z (Proc.devRef .tc main_v20_0)) shapeCasts_S12288x1024_S3x4096x1024 := by
  after_results
  rfl
theorem tail_v46 : StableHlo.after (hostOps1 (F := Ideal)) Z (Proc.devRef .tc main_v46)
    = shapeCast S3x4096 (Z (Proc.devRef .tc main_v20_1)) shapeCasts_S12288x1_S3x4096 := by
  after_results
  rfl
theorem tail_v47 : StableHlo.after (hostOps1 (F := Ideal)) Z (Proc.devRef .tc main_v47)
    = shapeCast S3x4096x7168 (Z (Proc.devRef .tc main_v20_2)) shapeCasts_S12288x7168_S3x4096x7168 := by
  after_results
  rfl
theorem tail_v48 : StableHlo.after (hostOps1 (F := Ideal)) Z (Proc.devRef .tc main_v48)
    = shapeCast S3x4096 (Z (Proc.devRef .tc main_v20_3)) shapeCasts_S12288x1_S3x4096 := by
  after_results
  rfl

/-! ## Before the region -/

/-- A byte's signed 4-bit fields, by arithmetic on the byte as a 32-bit word. -/
def signed (x : BitVec 32) : BitVec 8 := (Scalar.select (Scalar.cmpi .sge x 8#32) (x - 16#32) x).setWidth 8

theorem even_byte : ∀ b : BitVec 8, signed (b.setWidth 32 &&& 15#32) = nib b 0 := by decide
theorem odd_byte : ∀ b : BitVec 8, signed ((b.setWidth 32).sshiftRight 4 &&& 15#32) = nib b 1 := by decide

variable (m : (ℓ : Loc nD τ sig) → Buf (Elt Ideal) ℓ) (c : Dev nD)

theorem entry19 : Gen.V (F := Ideal) m c main_v19 = rows (m ((c.tc : Thread nD τ).loc main_arg0)) := by
  unfold V V0
  simp only [hostOps0, hostOps0_1, hostOps0_2, hostOps0_3, hostOps0_4, List.flatten_cons, List.flatten_nil, List.append_nil, List.cons_append, List.nil_append]
  after_results
  rfl

theorem entry8 : Gen.V (F := Ideal) m c main_v8 = fun i => nib (m ((c.tc : Thread nD τ).loc main_arg4) i) 0 := by
  unfold V V0
  simp only [hostOps0, hostOps0_1, hostOps0_2, hostOps0_3, hostOps0_4, List.flatten_cons, List.flatten_nil, List.append_nil, List.cons_append, List.nil_append]
  after_results
  funext i
  refine Eq.trans ?_ (even_byte _)
  rfl

theorem entry18 : Gen.V (F := Ideal) m c main_v18 = fun i => nib (m ((c.tc : Thread nD τ).loc main_arg4) i) 1 := by
  unfold V V0
  simp only [hostOps0, hostOps0_1, hostOps0_2, hostOps0_3, hostOps0_4, List.flatten_cons, List.flatten_nil, List.append_nil, List.cons_append, List.nil_append]
  after_results
  funext i
  refine Eq.trans ?_ (odd_byte _)
  rfl

end Cert.ReferenceIdeal.Arr

end
-- ==== Proof.RefPay.lean ====
/-
  The reference's kernel over the extended reals: what its seven results are, element by element.
-/
module

public import proofs.«01_k».proof.Proof.Gen.ReferenceIdeal.Frame
public import proofs.«01_k».proof.Proof.Spec
public import Idealize.ShloMosaic.Lib.Pointwise
public import Idealize.ShloMosaic.Lib.Pipeline.ValueKit

@[expose] public section

set_option maxRecDepth 65536

noncomputable section

namespace Cert.ReferenceIdeal.Arr

open Cert.ReferenceIdeal Cert.ReferenceIdeal.Gen
open Cert.Spec

open Idealize.ShloMosaic
open Idealize.ShloMosaic.TcCoe Idealize.ShloMosaic.Tactic
open Idealize.ShloMosaic.Pipeline (Dat Cfg Window)

/-! ## The payloads -/

variable (x : FVec Ideal S12288x8192 .bf16) (u : FVec Ideal S8192x8192 .bf16)

theorem pay5_at (i : Fin 12288) (j : Fin 8192) : k0_pay5 (F := Ideal) x u (ix2 i j) = ∑ k : Fin 8192, x (ix2 i k) * u (ix2 k j) := by
  pointwise [k0_pay5]

theorem pay5_R (i : Fin 12288) (j : Fin 8192) : k0_pay5 (F := Ideal) x u (ix2 i j) = R x u i.val j.val := by
  rw [pay5_at]
  unfold R
  rw [show Fin.ofNat 12288 i.val = i from Fin.ext (Nat.mod_eq_of_lt i.isLt), show Fin.ofNat 8192 j.val = j from Fin.ext (Nat.mod_eq_of_lt j.isLt)]

theorem pay6_at (i : Fin 12288) (j : Fin 1024) : k0_pay6 (F := Ideal) x u (ix2 i j) = R x u i.val j.val := by
  refine Eq.trans (b := k0_pay5 (F := Ideal) x u (ix2 i ⟨j.val, by omega⟩)) ?_ (pay5_R x u _ _)
  pointwise [k0_pay6]

theorem pay9_at (i : Fin 12288) (j : Fin 7168) : k0_pay9 (F := Ideal) x u (ix2 i j) = R x u i.val (1024 + j.val) := by
  refine Eq.trans (b := k0_pay5 (F := Ideal) x u (ix2 i ⟨1024 + j.val, by omega⟩)) ?_ (pay5_R x u _ _)
  pointwise [k0_pay9]

theorem maxH_at (w : FVec Ideal S12288x1024 .f32) (i : Fin 12288) :
    multiReduction .maximumf [1] S12288 w 0xFF800000#32 reduces_S12288x1024_S12288 (.inl rfl) rfl (ix1 i) = mx fun k : Fin 1024 => w (ix2 i k) := by
  unfold mx
  pointwise []

/-- The scale of a row's largest magnitude. -/
theorem scaleH_at (g : FVec Ideal S12288 .f32) (i : Fin 12288) (z : Fin 1) :
    select (cmpf (F := Ideal) (φ := .f32) .oeq (shapeCast S12288x1 g shapeCasts_S12288_S12288x1) (broadcast S12288x1 (FloatOps.ofBits .f32 0x00000000#32)))
      (broadcast S12288x1 (FloatOps.ofBits .f32 0x3F800000#32))
      (divf (shapeCast S12288x1 g shapeCasts_S12288_S12288x1) (broadcast S12288x1 (FloatOps.ofBits .f32 0x42FE0000#32))) (ix2 i z) = scale 0x42FE0000#32 (g (ix1 i)) := by
  unfold scale
  pointwise []

theorem pay7_at (i : Fin 12288) (z : Fin 1) : k0_pay7 (F := Ideal) x u (ix2 i z) = sH x u i.val := by
  unfold k0_pay7
  refine (scaleH_at _ i z).trans ?_
  unfold sH
  refine congrArg (scale 0x42FE0000#32) ((maxH_at _ i).trans (congrArg mx (funext fun k => ?_)))
  exact congrArg ab (pay6_at x u i k)

theorem maxL_at (w : FVec Ideal S12288x7168 .f32) (i : Fin 12288) :
    multiReduction .maximumf [1] S12288 w 0xFF800000#32 reduces_S12288x7168_S12288 (.inl rfl) rfl (ix1 i) = mx fun k : Fin 7168 => w (ix2 i k) := by
  unfold mx
  pointwise []

/-- The scale of a row's largest magnitude. -/
theorem scaleL_at (g : FVec Ideal S12288 .f32) (i : Fin 12288) (z : Fin 1) :
    select (cmpf (F := Ideal) (φ := .f32) .oeq (shapeCast S12288x1 g shapeCasts_S12288_S12288x1) (broadcast S12288x1 (FloatOps.ofBits .f32 0x00000000#32)))
      (broadcast S12288x1 (FloatOps.ofBits .f32 0x3F800000#32))
      (divf (shapeCast S12288x1 g shapeCasts_S12288_S12288x1) (broadcast S12288x1 (FloatOps.ofBits .f32 0x40E00000#32))) (ix2 i z) = scale 0x40E00000#32 (g (ix1 i)) := by
  unfold scale
  pointwise []

theorem pay10_at (i : Fin 12288) (z : Fin 1) : k0_pay10 (F := Ideal) x u (ix2 i z) = sL x u i.val := by
  unfold k0_pay10
  refine (scaleL_at _ i z).trans ?_
  unfold sL
  refine congrArg (scale 0x40E00000#32) ((maxL_at _ i).trans (congrArg mx (funext fun k => ?_)))
  exact congrArg ab (pay9_at x u i k)

/-- A code from its element and its row's scale. -/
theorem codeH_at (v : FVec Ideal S12288x1024 .f32) (s : FVec Ideal S12288x1 .f32) (i : Fin 12288) (j : Fin 1024) :
    fptosi 8 (minimumf (broadcast S12288x1024 (FloatOps.ofBits .f32 0x42FE0000#32)) (maximumf (broadcast S12288x1024 (FloatOps.ofBits .f32 0xC2FE0000#32))
      (roundeven (divf v (broadcastTo S12288x1024 s broadcasts_S12288x1_S12288x1024))))) (ix2 i j)
      = code 0xC2FE0000#32 0x42FE0000#32 (v (ix2 i j)) (s (ix2 i 0)) := by
  unfold code
  pointwise []
  rfl

theorem pay8_at (i : Fin 12288) (j : Fin 1024) : k0_pay8 (F := Ideal) x u (ix2 i j) = qH x u i.val j.val := by
  unfold k0_pay8
  refine (codeH_at _ _ i j).trans ?_
  rw [pay6_at, pay7_at]
  rfl

/-- A code from its element and its row's scale. -/
theorem codeL_at (v : FVec Ideal S12288x7168 .f32) (s : FVec Ideal S12288x1 .f32) (i : Fin 12288) (j : Fin 7168) :
    fptosi 8 (minimumf (broadcast S12288x7168 (FloatOps.ofBits .f32 0x40E00000#32)) (maximumf (broadcast S12288x7168 (FloatOps.ofBits .f32 0xC0E00000#32))
      (roundeven (divf v (broadcastTo S12288x7168 s broadcasts_S12288x1_S12288x7168))))) (ix2 i j)
      = code 0xC0E00000#32 0x40E00000#32 (v (ix2 i j)) (s (ix2 i 0)) := by
  unfold code
  pointwise []
  rfl

theorem pay11_at (i : Fin 12288) (j : Fin 7168) : k0_pay11 (F := Ideal) x u (ix2 i j) = qL x u i.val j.val := by
  unfold k0_pay11
  refine (codeL_at _ _ i j).trans ?_
  rw [pay9_at, pay10_at]
  rfl

theorem pay2_at (q : IVec S12288x1024 8) (w : Vec Ideal S1024x22016 .i8) (i : Fin 12288) (j : Fin 22016) :
    k0_pay2 (F := Ideal) q w (ix2 i j) = ∑ k : Fin 1024, val (q (ix2 i k)) * val (w (ix2 k j)) := by
  unfold val
  pointwise [k0_pay2]

theorem pay3_at (q : IVec S12288x7168 8) (w : Vec Ideal S7168x11008 .i8) (i : Fin 12288) (j : Fin 11008) :
    k0_pay3 (F := Ideal) q w (ix2 i j) = ∑ k : Fin 7168, val (q (ix2 i k)) * val (w (ix2 k j)) := by
  unfold val
  pointwise [k0_pay3, k0_pay1]

theorem pay4_at (q : IVec S12288x7168 8) (w : Vec Ideal S7168x11008 .i8) (i : Fin 12288) (j : Fin 11008) :
    k0_pay4 (F := Ideal) q w (ix2 i j) = ∑ k : Fin 7168, val (q (ix2 i k)) * val (w (ix2 k j)) := by
  unfold val
  pointwise [k0_pay4, k0_pay1]

/-! ## The results' arrays -/

theorem hz : (![0, 0] : Fin 2 → Nat) = fun _ => 0 := funext fun a => by fin_cases a <;> rfl

variable (m : (ℓ : Loc nD τ sig) → Buf (Elt Ideal) ℓ) (c : Dev nD)

/-- The operands as the region finds them. -/
def X : FVec Ideal S12288x8192 .bf16 := V m c main_v19
def U : FVec Ideal S8192x8192 .bf16 := V m c main_arg1
def W : IVec S1024x22016 8 := V m c main_arg2
def WE : IVec S7168x11008 8 := V m c main_v8
def WO : IVec S7168x11008 8 := V m c main_v18

theorem iblk0 (t : Fin cfg0.N) : iblk (F := Ideal) m c 0 t = X m c := by
  funext y; unfold iblk X
  show V m c main_v19 _ = V m c main_v19 _
  congr 1
  refine Shape.idx_ext₂ (n := S12288x8192.size) ?_ ?_
  · show 0 * 12288 + 1 * (y 0).val = (y 0).val; omega
  · show 0 * 8192 + 1 * (y 1).val = (y 1).val; omega
theorem iblk1 (t : Fin cfg0.N) : iblk (F := Ideal) m c 1 t = U m c := by
  funext y; unfold iblk U
  show V m c main_arg1 _ = V m c main_arg1 _
  congr 1
  refine Shape.idx_ext₂ (n := S8192x8192.size) ?_ ?_
  · show 0 * 8192 + 1 * (y 0).val = (y 0).val; omega
  · show 0 * 8192 + 1 * (y 1).val = (y 1).val; omega
theorem iblk2 (t : Fin cfg0.N) : iblk (F := Ideal) m c 2 t = W m c := by
  funext y; unfold iblk W
  show V m c main_arg2 _ = V m c main_arg2 _
  congr 1
  refine Shape.idx_ext₂ (n := S1024x22016.size) ?_ ?_
  · show 0 * 1024 + 1 * (y 0).val = (y 0).val; omega
  · show 0 * 22016 + 1 * (y 1).val = (y 1).val; omega
theorem iblk3 (t : Fin cfg0.N) : iblk (F := Ideal) m c 3 t = WE m c := by
  funext y; unfold iblk WE
  show V m c main_v8 _ = V m c main_v8 _
  congr 1
  refine Shape.idx_ext₂ (n := S7168x11008.size) ?_ ?_
  · show 0 * 7168 + 1 * (y 0).val = (y 0).val; omega
  · show 0 * 11008 + 1 * (y 1).val = (y 1).val; omega
theorem iblk4 (t : Fin cfg0.N) : iblk (F := Ideal) m c 4 t = WO m c := by
  funext y; unfold iblk WO
  show V m c main_v18 _ = V m c main_v18 _
  congr 1
  refine Shape.idx_ext₂ (n := S7168x11008.size) ?_ ?_
  · show 0 * 7168 + 1 * (y 0).val = (y 0).val; omega
  · show 0 * 11008 + 1 * (y 1).val = (y 1).val; omega

theorem arr5 : (dats (F := Ideal) m 0 c).arrAt 5 cfg0.N = fun i : S12288x1024.Idx => qH (X m c) (U m c) (i 0).val (i 1).val := by
  refine (dats (F := Ideal) m 0 c).arrAt_eq_of_covers 5 _ (by decide +kernel) fun t hf y => ?_
  blk_simp
  rw [after0_5, iblk0, iblk1, iblk2, iblk3, iblk4]
  unfold out0_5 k0_pay12
  rw [View.canon_unit_zero hz, View.ld_unit_zero hz, View.ld_unit_zero hz]
  obtain ⟨i, j, rfl⟩ : ∃ (i : Fin 12288) (j : Fin 1024), y = ix2 i j := ⟨y 0, y 1, eq_ix2 y⟩
  refine (pay8_at _ _ i j).trans (congrArg₂ (qH (X m c) (U m c)) ?_ ?_)
  · show i.val = 0 * 12288 + i.val; omega
  · show j.val = 0 * 1024 + j.val; omega

theorem arr6 : (dats (F := Ideal) m 0 c).arrAt 6 cfg0.N = fun i : S12288x1.Idx => sH (X m c) (U m c) (i 0).val := by
  refine (dats (F := Ideal) m 0 c).arrAt_eq_of_covers 6 _ (by decide +kernel) fun t hf y => ?_
  blk_simp
  rw [after0_6, iblk0, iblk1, iblk2, iblk3, iblk4]
  unfold out0_6
  rw [View.canon_unit_zero hz, View.ld_unit_zero hz, View.ld_unit_zero hz]
  obtain ⟨i, j, rfl⟩ : ∃ (i : Fin 12288) (j : Fin 1), y = ix2 i j := ⟨y 0, y 1, eq_ix2 y⟩
  refine (pay7_at _ _ i j).trans (congrArg (sH (X m c) (U m c)) ?_)
  show i.val = 0 * 12288 + i.val; omega

theorem arr7 : (dats (F := Ideal) m 0 c).arrAt 7 cfg0.N = fun i : S12288x7168.Idx => qL (X m c) (U m c) (i 0).val (i 1).val := by
  refine (dats (F := Ideal) m 0 c).arrAt_eq_of_covers 7 _ (by decide +kernel) fun t hf y => ?_
  blk_simp
  rw [after0_7, iblk0, iblk1, iblk2, iblk3, iblk4]
  unfold out0_7 k0_pay13
  rw [View.canon_unit_zero hz, View.ld_unit_zero hz, View.ld_unit_zero hz]
  obtain ⟨i, j, rfl⟩ : ∃ (i : Fin 12288) (j : Fin 7168), y = ix2 i j := ⟨y 0, y 1, eq_ix2 y⟩
  refine (pay11_at _ _ i j).trans (congrArg₂ (qL (X m c) (U m c)) ?_ ?_)
  · show i.val = 0 * 12288 + i.val; omega
  · show j.val = 0 * 7168 + j.val; omega

theorem arr8 : (dats (F := Ideal) m 0 c).arrAt 8 cfg0.N = fun i : S12288x1.Idx => sL (X m c) (U m c) (i 0).val := by
  refine (dats (F := Ideal) m 0 c).arrAt_eq_of_covers 8 _ (by decide +kernel) fun t hf y => ?_
  blk_simp
  rw [after0_8, iblk0, iblk1, iblk2, iblk3, iblk4]
  unfold out0_8
  rw [View.canon_unit_zero hz, View.ld_unit_zero hz, View.ld_unit_zero hz]
  obtain ⟨i, j, rfl⟩ : ∃ (i : Fin 12288) (j : Fin 1), y = ix2 i j := ⟨y 0, y 1, eq_ix2 y⟩
  refine (pay10_at _ _ i j).trans (congrArg (sL (X m c) (U m c)) ?_)
  show i.val = 0 * 12288 + i.val; omega

theorem arr9 : (dats (F := Ideal) m 0 c).arrAt 9 cfg0.N = fun i : S12288x22016.Idx => accH (X m c) (U m c) (W m c) (i 0).val (i 1).val := by
  refine (dats (F := Ideal) m 0 c).arrAt_eq_of_covers 9 _ (by decide +kernel) fun t hf y => ?_
  blk_simp
  rw [after0_9, iblk0, iblk1, iblk2, iblk3, iblk4]
  unfold out0_9 k0_pay12
  rw [View.canon_unit_zero hz, View.ld_unit_zero hz, View.ld_unit_zero hz, View.ld_unit_zero hz]
  obtain ⟨i, j, rfl⟩ : ∃ (i : Fin 12288) (j : Fin 22016), y = ix2 i j := ⟨y 0, y 1, eq_ix2 y⟩
  refine Eq.trans (b := accH (X m c) (U m c) (W m c) i.val j.val) ?_ (congrArg₂ (accH (X m c) (U m c) (W m c)) ?_ ?_)
  · refine (pay2_at _ _ i j).trans ?_
    unfold accH
    rw [show Fin.ofNat 22016 j.val = j from Fin.ext (Nat.mod_eq_of_lt j.isLt)]
    exact Finset.sum_congr rfl fun k _ => by rw [pay8_at]
  · show i.val = 0 * 12288 + i.val; omega
  · show j.val = 0 * 22016 + j.val; omega

/-- The product of the int4 codes with a matrix of weights. -/
def lo (w : IVec S7168x11008 8) (r : ℕ) (j : Fin 11008) : EReal := ∑ k : Fin 7168, val (qL (X m c) (U m c) r k.val) * val (w (ix2 k j))

theorem arr10 : (dats (F := Ideal) m 0 c).arrAt 10 cfg0.N = fun i : S12288x11008.Idx => lo m c (WE m c) (i 0).val (i 1) := by
  refine (dats (F := Ideal) m 0 c).arrAt_eq_of_covers 10 _ (by decide +kernel) fun t hf y => ?_
  blk_simp
  rw [after0_10, iblk0, iblk1, iblk2, iblk3, iblk4]
  unfold out0_10 k0_pay13
  rw [View.canon_unit_zero hz, View.ld_unit_zero hz, View.ld_unit_zero hz, View.ld_unit_zero hz]
  obtain ⟨i, j, rfl⟩ : ∃ (i : Fin 12288) (j : Fin 11008), y = ix2 i j := ⟨y 0, y 1, eq_ix2 y⟩
  refine Eq.trans (b := lo m c (WE m c) i.val j) ?_ (congrArg₂ (lo m c (WE m c)) ?_ (Fin.ext ?_))
  · refine (pay3_at _ _ i j).trans ?_
    unfold lo
    exact Finset.sum_congr rfl fun k _ => by rw [pay11_at]
  · show i.val = 0 * 12288 + i.val; omega
  · exact ((Window.rect_emb_val win0_10 t (ix2 i j) 1).trans (by show 0 * 11008 + j.val = j.val; omega)).symm

theorem arr11 : (dats (F := Ideal) m 0 c).arrAt 11 cfg0.N = fun i : S12288x11008.Idx => lo m c (WO m c) (i 0).val (i 1) := by
  refine (dats (F := Ideal) m 0 c).arrAt_eq_of_covers 11 _ (by decide +kernel) fun t hf y => ?_
  blk_simp
  rw [after0_11, iblk0, iblk1, iblk2, iblk3, iblk4]
  unfold out0_11 k0_pay13
  rw [View.canon_unit_zero hz, View.ld_unit_zero hz, View.ld_unit_zero hz, View.ld_unit_zero hz]
  obtain ⟨i, j, rfl⟩ : ∃ (i : Fin 12288) (j : Fin 11008), y = ix2 i j := ⟨y 0, y 1, eq_ix2 y⟩
  refine Eq.trans (b := lo m c (WO m c) i.val j) ?_ (congrArg₂ (lo m c (WO m c)) ?_ (Fin.ext ?_))
  · refine (pay4_at _ _ i j).trans ?_
    unfold lo
    exact Finset.sum_congr rfl fun k _ => by rw [pay11_at]
  · show i.val = 0 * 12288 + i.val; omega
  · exact ((Window.rect_emb_val win0_11 t (ix2 i j) 1).trans (by show 0 * 11008 + j.val = j.val; omega)).symm

end Cert.ReferenceIdeal.Arr

end
-- ==== Proof.RefRun.lean ====
/-
  The reference's run over the extended reals: what its five results are.
-/
module

public import proofs.«01_k».proof.Proof.RefHost
public import proofs.«01_k».proof.Proof.RefPay

@[expose] public section

set_option maxRecDepth 65536

noncomputable section

namespace Cert.ReferenceIdeal.Arr

open Cert.ReferenceIdeal Cert.ReferenceIdeal.Gen
open Cert.Spec

open Idealize.ShloMosaic Idealize.SL.Sem
open Idealize.ShloMosaic.TcCoe Idealize.ShloMosaic.Tactic

variable (m : (ℓ : Loc nD τ sig) → Buf (Elt Ideal) ℓ) (ρ : Dev nD → PrngReg)

/-- The arguments. -/
def a0 (c : Dev nD) : FVec Ideal ⟨3, ![3, 4096, 8192]⟩ .bf16 := m ((c.tc : Thread nD τ).loc main_arg0)
def a1 (c : Dev nD) : FVec Ideal ⟨2, ![8192, 8192]⟩ .bf16 := m ((c.tc : Thread nD τ).loc main_arg1)
def a2 (c : Dev nD) : IVec ⟨2, ![1024, 22016]⟩ 8 := m ((c.tc : Thread nD τ).loc main_arg2)
def a3 (c : Dev nD) : FVec Ideal ⟨1, ![22016]⟩ .f32 := m ((c.tc : Thread nD τ).loc main_arg3)
def a4 (c : Dev nD) : IVec ⟨2, ![7168, 11008]⟩ 8 := m ((c.tc : Thread nD τ).loc main_arg4)
def a5 (c : Dev nD) : FVec Ideal ⟨1, ![22016]⟩ .f32 := m ((c.tc : Thread nD τ).loc main_arg5)

theorem X_eq (c : Dev nD) : X m c = rows (a0 m c) := entry19 m c
theorem U_eq (c : Dev nD) : U m c = a1 m c := V_main_arg1 m c
theorem W_eq (c : Dev nD) : W m c = a2 m c := V_main_arg2 m c
theorem WE_eq (c : Dev nD) : WE m c = fun i => nib (a4 m c i) 0 := entry8 m c
theorem WO_eq (c : Dev nD) : WO m c = fun i => nib (a4 m c i) 1 := entry18 m c

/-- Every buffer as the region leaves it. -/
def Z (c : Dev nD) : Valuation τ sig (Elt Ideal) := Pipeline.withArrays spec0 c (V0 m c) fun w => (dats m 0 c).arrAt w cfg0.N

theorem inj0 : Function.Injective (Pipeline.arrRef spec0) := by decide

theorem Z_0 (c : Dev nD) : Z m c (Proc.devRef .tc main_v20_0) = fun i : S12288x1024.Idx => qH (rows (a0 m c)) (a1 m c) (i 0).val (i 1).val := by
  rw [← X_eq, ← U_eq, ← arr5]
  exact Pipeline.withArrays_arr spec0 inj0 c (V0 m c) (fun w => (dats m 0 c).arrAt w cfg0.N) 5
theorem Z_1 (c : Dev nD) : Z m c (Proc.devRef .tc main_v20_1) = fun i : S12288x1.Idx => sH (rows (a0 m c)) (a1 m c) (i 0).val := by
  rw [← X_eq, ← U_eq, ← arr6]
  exact Pipeline.withArrays_arr spec0 inj0 c (V0 m c) (fun w => (dats m 0 c).arrAt w cfg0.N) 6
theorem Z_2 (c : Dev nD) : Z m c (Proc.devRef .tc main_v20_2) = fun i : S12288x7168.Idx => qL (rows (a0 m c)) (a1 m c) (i 0).val (i 1).val := by
  rw [← X_eq, ← U_eq, ← arr7]
  exact Pipeline.withArrays_arr spec0 inj0 c (V0 m c) (fun w => (dats m 0 c).arrAt w cfg0.N) 7
theorem Z_3 (c : Dev nD) : Z m c (Proc.devRef .tc main_v20_3) = fun i : S12288x1.Idx => sL (rows (a0 m c)) (a1 m c) (i 0).val := by
  rw [← X_eq, ← U_eq, ← arr8]
  exact Pipeline.withArrays_arr spec0 inj0 c (V0 m c) (fun w => (dats m 0 c).arrAt w cfg0.N) 8
theorem Z_4 (c : Dev nD) : Z m c (Proc.devRef .tc main_v20_4)
    = fun i : S12288x22016.Idx => accH (rows (a0 m c)) (a1 m c) (a2 m c) (i 0).val (i 1).val := by
  rw [← X_eq, ← U_eq, ← W_eq, ← arr9]
  exact Pipeline.withArrays_arr spec0 inj0 c (V0 m c) (fun w => (dats m 0 c).arrAt w cfg0.N) 9
theorem Z_5 (c : Dev nD) : Z m c (Proc.devRef .tc main_v20_5) = fun i : S12288x11008.Idx => lo m c (WE m c) (i 0).val (i 1) := by
  rw [← arr10]
  exact Pipeline.withArrays_arr spec0 inj0 c (V0 m c) (fun w => (dats m 0 c).arrAt w cfg0.N) 10
theorem Z_6 (c : Dev nD) : Z m c (Proc.devRef .tc main_v20_6) = fun i : S12288x11008.Idx => lo m c (WO m c) (i 0).val (i 1) := by
  rw [← arr11]
  exact Pipeline.withArrays_arr spec0 inj0 c (V0 m c) (fun w => (dats m 0 c).arrAt w cfg0.N) 11
theorem Z_arg3 (c : Dev nD) : Z m c (Proc.devRef .tc main_arg3) = a3 m c :=
  (Pipeline.withArrays_of_ne _ c (V0 m c) _ main_arg3 (by exact (by decide : ∀ w, Pipeline.arrRef spec0 w ≠ main_arg3))).trans (V_main_arg3 m c)
theorem Z_arg5 (c : Dev nD) : Z m c (Proc.devRef .tc main_arg5) = a5 m c :=
  (Pipeline.withArrays_of_ne _ c (V0 m c) _ main_arg5 (by exact (by decide : ∀ w, Pipeline.arrRef spec0 w ≠ main_arg5))).trans (V_main_arg5 m c)

/-- The half of the columns a column belongs to. -/
theorem lo_eq (c : Dev nD) (r : ℕ) (j : Fin 22016) :
    (if j.val % 2 = 0 then lo m c (WE m c) r ⟨j.val / 2, by omega⟩ else lo m c (WO m c) r ⟨j.val / 2, by omega⟩)
      = accL (rows (a0 m c)) (a1 m c) (a4 m c) r j.val := by
  have e : Fin.ofNat 11008 (j.val / 2) = (⟨j.val / 2, by omega⟩ : Fin 11008) := Fin.ext (Nat.mod_eq_of_lt (by omega))
  unfold lo accL
  rw [X_eq, U_eq, WE_eq, WO_eq, e]
  split_ifs with h
  · rw [h]
  · rw [show j.val % 2 = 1 by omega]

theorem total_eq (c : Dev nD) :
    total (Z m c (Proc.devRef .tc main_v20_1)) (Z m c (Proc.devRef .tc main_v20_3)) (Z m c (Proc.devRef .tc main_arg3)) (Z m c (Proc.devRef .tc main_arg5))
        (Z m c (Proc.devRef .tc main_v20_4)) (Z m c (Proc.devRef .tc main_v20_5)) (Z m c (Proc.devRef .tc main_v20_6))
      = fun i : S12288x22016.Idx => Y (rows (a0 m c)) (a1 m c) (a2 m c) (row (a3 m c)) (a4 m c) (row (a5 m c)) (i 0).val (i 1).val := by
  funext i
  obtain ⟨r, j, rfl⟩ : ∃ (r : Fin 12288) (j : Fin 22016), i = ix2 r j := ⟨i 0, i 1, eq_ix2 i⟩
  rw [total_at, Z_1, Z_3, Z_4, Z_5, Z_6, Z_arg3, Z_arg5]
  have e : Fin.ofNat 22016 j.val = j := Fin.ext (Nat.mod_eq_of_lt j.isLt)
  have h := lo_eq m c r.val j
  show _ = Y (rows (a0 m c)) (a1 m c) (a2 m c) (row (a3 m c)) (a4 m c) (row (a5 m c)) r.val j.val
  unfold Y row
  rw [← h, e]
  rfl

/-- What the reference computes. -/
theorem run : θ_run (defs (F := Ideal)) (onTc (τ := τ) (main (F := Ideal))) ⟨m, fun _ => 0, ρ⟩ (fun r => ∀ c : Dev nD,
    r.2.mem ((c.tc : Thread nD τ).loc main_v44) = resY (a0 m c) (a1 m c) (a2 m c) (a3 m c) (a4 m c) (a5 m c)
    ∧ r.2.mem ((c.tc : Thread nD τ).loc main_v45) = resQH (a0 m c) (a1 m c)
    ∧ r.2.mem ((c.tc : Thread nD τ).loc main_v46) = resSH (a0 m c) (a1 m c)
    ∧ r.2.mem ((c.tc : Thread nD τ).loc main_v47) = resQL (a0 m c) (a1 m c)
    ∧ r.2.mem ((c.tc : Thread nD τ).loc main_v48) = resSL (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) := by
  run_from Gen.run_main m ρ
  · refine (tail_v44 (Z m c)).trans ?_
    rw [total_eq]; rfl
  · refine (tail_v45 (Z m c)).trans ?_
    rw [Z_0]; rfl
  · refine (tail_v46 (Z m c)).trans ?_
    rw [Z_1]; rfl
  · refine (tail_v47 (Z m c)).trans ?_
    rw [Z_2]; rfl
  · refine (tail_v48 (Z m c)).trans ?_
    rw [Z_3]; rfl
  · exact W_main_arg0 m (dats m) c
  · exact W_main_arg3 m (dats m) c
  · exact W_main_arg4 m (dats m) c
  · exact W_main_arg5 m (dats m) c

end Cert.ReferenceIdeal.Arr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Same
public import proofs.«01_k».proof.Proof.KerVal
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Every run of the kernel ends without a fault, with its arguments as launched and every semaphore counter at zero. -/
theorem kernel_frame : Cert.quiescent_Kernel (hKernel := Cert.Kernel.Gen.facts) := fun m ρ _ =>
  (θ_run _ _ _).mono (fun _ h => ⟨fun c => (h.1 c).1, h.2⟩) (Cert.Kernel.Run.run_main m ρ)

/-- So does every run of the kernel read over the extended reals. -/
theorem ideal_frame : Cert.quiescent_KernelIdeal (hKernelIdeal := Cert.KernelIdeal.Gen.facts) := fun m ρ _ =>
  Cert.Same.transfer ⟨m, fun _ => 0, ρ⟩ _
    ((θ_run _ _ _).mono (fun _ h => ⟨fun c => (h.1 c).1, h.2⟩) (Cert.Kernel.Run.run_main m ρ))

open Cert.Spec Cert.Kernel.Run in
/-- What the kernel computes over the extended reals. -/
theorem kernel_values (m : (ℓ : Loc Cert.Kernel.nD Cert.Kernel.τ Cert.Kernel.sig) → Buf (Elt Ideal) ℓ) (ρ : Dev Cert.Kernel.nD → PrngReg) :
    θ_run (Cert.Kernel.defs (F := Ideal)) (onTc (τ := Cert.Kernel.τ) (Cert.Kernel.main (F := Ideal))) ⟨m, fun _ => 0, ρ⟩ (fun r => ∀ c : Dev Cert.Kernel.nD,
      r.2.mem ((c.tc : Thread Cert.Kernel.nD Cert.Kernel.τ).loc Cert.Kernel.main_v5) = resY (a0 m c) (a1 m c) (a2 m c) (a3 m c) (a4 m c) (a5 m c)
      ∧ r.2.mem ((c.tc : Thread Cert.Kernel.nD Cert.Kernel.τ).loc Cert.Kernel.main_v6) = resQH (a0 m c) (a1 m c)
      ∧ r.2.mem ((c.tc : Thread Cert.Kernel.nD Cert.Kernel.τ).loc Cert.Kernel.main_v9) = resSH (a0 m c) (a1 m c)
      ∧ r.2.mem ((c.tc : Thread Cert.Kernel.nD Cert.Kernel.τ).loc Cert.Kernel.main_v10) = resQL (a0 m c) (a1 m c)
      ∧ r.2.mem ((c.tc : Thread Cert.Kernel.nD Cert.Kernel.τ).loc Cert.Kernel.main_v13) = resSL (a0 m c) (a1 m c)
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)) := by
  refine (θ_run _ _ _).mono (fun r h c => ?_) (Cert.Kernel.Run.run_main m ρ)
  obtain ⟨⟨k0, k1, k2, k3, k4, k5⟩, h5, h6, h9, h10, h13⟩ := h.1 c
  exact ⟨h5.trans (res_0 m c), h6.trans (res_1 m c), h9.trans (res_2 m c), h10.trans (res_3 m c), h13.trans (res_4 m c), k0, k1, k2, k3, k4, k5⟩

open Cert.Spec Cert.Kernel.Run in
/-- Over the extended reals the kernel's five results are the reference's. -/
theorem values : Cert.algebraic_KernelIdeal_ReferenceIdeal (hKernelIdeal := Cert.KernelIdeal.Gen.facts) (hReferenceIdeal := Cert.ReferenceIdeal.Gen.facts) := by
  intro m ρ m' ρ' _ hagree
  refine ⟨fun c => resY (a0 m c) (a1 m c) (a2 m c) (a3 m c) (a4 m c) (a5 m c), fun c => resQH (a0 m c) (a1 m c), fun c => resSH (a0 m c) (a1 m c),
    fun c => resQL (a0 m c) (a1 m c), fun c => resSL (a0 m c) (a1 m c), ?_, ?_⟩
  · exact Cert.Same.transfer ⟨m, fun _ => 0, ρ⟩ _ (kernel_values m ρ)
  · refine (θ_run _ _ _).mono (fun r h c => ?_) (Cert.ReferenceIdeal.Arr.run m' ρ')
    obtain ⟨g0, g1, g2, g3, g4, g5⟩ := hagree c
    have e0 : Cert.ReferenceIdeal.Arr.a0 m' c = a0 m c := g0
    have e1 : Cert.ReferenceIdeal.Arr.a1 m' c = a1 m c := g1
    have e2 : Cert.ReferenceIdeal.Arr.a2 m' c = a2 m c := g2
    have e3 : Cert.ReferenceIdeal.Arr.a3 m' c = a3 m c := g3
    have e4 : Cert.ReferenceIdeal.Arr.a4 m' c = a4 m c := g4
    have e5 : Cert.ReferenceIdeal.Arr.a5 m' c = a5 m c := g5
    have h := h c
    rw [e0, e1, e2, e3, e4, e5] at h
    exact h

theorem claim : Cert.Claim := ⟨Cert.Kernel.Gen.facts, Cert.KernelIdeal.Gen.facts, Cert.ReferenceIdeal.Gen.facts,
  kernel_frame, ideal_frame, fun m ρ _ => Cert.ReferenceIdeal.Gen.frame m ρ, trivial, values⟩

end Cert.Proof

end
